-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16x64x64 : Shape := ⟨3, ![16, 64, 64]⟩
abbrev S16 : Shape := ⟨1, ![16]⟩
abbrev S_ : Shape := ⟨0, ![]⟩
abbrev S1 : Shape := ⟨1, ![1]⟩
abbrev S64x64 : Shape := ⟨2, ![64, 64]⟩
abbrev S1x64x64 : Shape := ⟨3, ![1, 64, 64]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S1024x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S16x64x64, .bf16⟩
  | .local _ .vmem, ⟨3, _⟩ => ⟨S16x64x64, .bf16⟩
  | .local _ .vmem, ⟨4, _⟩ => ⟨S1024x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 17 35 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 16

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_2 : BitVec 32 := 0#32
  let v6 : BitVec 1 := Scalar.cmpi .ne v5 c0_i32_2
  v6

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 : Nat :=
  let c0_i32_188 : BitVec 32 := 0#32
  let c0_i32_186 : BitVec 32 := 0#32
  let c1_i32_187 : BitVec 32 := 1#32
  let v307 : BitVec 32 := Scalar.muli c0_i32_186 c1_i32_187
  let v308 : BitVec 32 := Scalar.addi c0_i32_188 v307
  v308.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v7 : BitVec 1 := Scalar.cmpi .ne v2 c1_i32_3
  let v8 : BitVec 32 := Scalar.extui v7
  let c0_i32_4 : BitVec 32 := 0#32
  let v9 : BitVec 1 := Scalar.cmpi .ne v8 c0_i32_4
  v9

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev2 : Nat :=
  let c0_i32_188 : BitVec 32 := 0#32
  let c1_i32_186 : BitVec 32 := 1#32
  let c1_i32_187 : BitVec 32 := 1#32
  let v307 : BitVec 32 := Scalar.muli c1_i32_186 c1_i32_187
  let v308 : BitVec 32 := Scalar.addi c0_i32_188 v307
  v308.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_5 : BitVec 32 := 0#32
  let v12 : BitVec 1 := Scalar.cmpi .ne v11 c0_i32_5
  v12

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev3 : Nat :=
  let c0_i32_188 : BitVec 32 := 0#32
  let c2_i32_186 : BitVec 32 := 2#32
  let c1_i32_187 : BitVec 32 := 1#32
  let v307 : BitVec 32 := Scalar.muli c2_i32_186 c1_i32_187
  let v308 : BitVec 32 := Scalar.addi c0_i32_188 v307
  v308.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_6 : BitVec 32 := 0#32
  let v15 : BitVec 1 := Scalar.cmpi .ne v14 c0_i32_6
  v15

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev4 : Nat :=
  let c0_i32_188 : BitVec 32 := 0#32
  let c3_i32_186 : BitVec 32 := 3#32
  let c1_i32_187 : BitVec 32 := 1#32
  let v307 : BitVec 32 := Scalar.muli c3_i32_186 c1_i32_187
  let v308 : BitVec 32 := Scalar.addi c0_i32_188 v307
  v308.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_7 : BitVec 32 := 0#32
  let v18 : BitVec 1 := Scalar.cmpi .ne v17 c0_i32_7
  v18

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev5 : Nat :=
  let c0_i32_188 : BitVec 32 := 0#32
  let c4_i32_186 : BitVec 32 := 4#32
  let c1_i32_187 : BitVec 32 := 1#32
  let v307 : BitVec 32 := Scalar.muli c4_i32_186 c1_i32_187
  let v308 : BitVec 32 := Scalar.addi c0_i32_188 v307
  v308.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_8 : BitVec 32 := 0#32
  let v21 : BitVec 1 := Scalar.cmpi .ne v20 c0_i32_8
  v21

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev6 : Nat :=
  let c0_i32_188 : BitVec 32 := 0#32
  let c5_i32_186 : BitVec 32 := 5#32
  let c1_i32_187 : BitVec 32 := 1#32
  let v307 : BitVec 32 := Scalar.muli c5_i32_186 c1_i32_187
  let v308 : BitVec 32 := Scalar.addi c0_i32_188 v307
  v308.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_9 : BitVec 32 := 0#32
  let v24 : BitVec 1 := Scalar.cmpi .ne v23 c0_i32_9
  v24

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev7 : Nat :=
  let c0_i32_188 : BitVec 32 := 0#32
  let c6_i32_186 : BitVec 32 := 6#32
  let c1_i32_187 : BitVec 32 := 1#32
  let v307 : BitVec 32 := Scalar.muli c6_i32_186 c1_i32_187
  let v308 : BitVec 32 := Scalar.addi c0_i32_188 v307
  v308.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_10 : BitVec 32 := 0#32
  let v27 : BitVec 1 := Scalar.cmpi .ne v26 c0_i32_10
  v27

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev8 : Nat :=
  let c0_i32_188 : BitVec 32 := 0#32
  let c7_i32_186 : BitVec 32 := 7#32
  let c1_i32_187 : BitVec 32 := 1#32
  let v307 : BitVec 32 := Scalar.muli c7_i32_186 c1_i32_187
  let v308 : BitVec 32 := Scalar.addi c0_i32_188 v307
  v308.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_11 : BitVec 32 := 0#32
  let v30 : BitVec 1 := Scalar.cmpi .ne v29 c0_i32_11
  v30

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev9 : Nat :=
  let c0_i32_188 : BitVec 32 := 0#32
  let c8_i32_186 : BitVec 32 := 8#32
  let c1_i32_187 : BitVec 32 := 1#32
  let v307 : BitVec 32 := Scalar.muli c8_i32_186 c1_i32_187
  let v308 : BitVec 32 := Scalar.addi c0_i32_188 v307
  v308.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_12 : BitVec 32 := 0#32
  let v33 : BitVec 1 := Scalar.cmpi .ne v32 c0_i32_12
  v33

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev10 : Nat :=
  let c0_i32_188 : BitVec 32 := 0#32
  let c9_i32_186 : BitVec 32 := 9#32
  let c1_i32_187 : BitVec 32 := 1#32
  let v307 : BitVec 32 := Scalar.muli c9_i32_186 c1_i32_187
  let v308 : BitVec 32 := Scalar.addi c0_i32_188 v307
  v308.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_13 : BitVec 32 := 0#32
  let v36 : BitVec 1 := Scalar.cmpi .ne v35 c0_i32_13
  v36

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev11 : Nat :=
  let c0_i32_188 : BitVec 32 := 0#32
  let c10_i32_186 : BitVec 32 := 10#32
  let c1_i32_187 : BitVec 32 := 1#32
  let v307 : BitVec 32 := Scalar.muli c10_i32_186 c1_i32_187
  let v308 : BitVec 32 := Scalar.addi c0_i32_188 v307
  v308.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_14 : BitVec 32 := 0#32
  let v39 : BitVec 1 := Scalar.cmpi .ne v38 c0_i32_14
  v39

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev12 : Nat :=
  let c0_i32_188 : BitVec 32 := 0#32
  let c11_i32_186 : BitVec 32 := 11#32
  let c1_i32_187 : BitVec 32 := 1#32
  let v307 : BitVec 32 := Scalar.muli c11_i32_186 c1_i32_187
  let v308 : BitVec 32 := Scalar.addi c0_i32_188 v307
  v308.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_15 : BitVec 32 := 0#32
  let v42 : BitVec 1 := Scalar.cmpi .ne v41 c0_i32_15
  v42

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev13 : Nat :=
  let c0_i32_188 : BitVec 32 := 0#32
  let c12_i32_186 : BitVec 32 := 12#32
  let c1_i32_187 : BitVec 32 := 1#32
  let v307 : BitVec 32 := Scalar.muli c12_i32_186 c1_i32_187
  let v308 : BitVec 32 := Scalar.addi c0_i32_188 v307
  v308.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_16 : BitVec 32 := 0#32
  let v45 : BitVec 1 := Scalar.cmpi .ne v44 c0_i32_16
  v45

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev14 : Nat :=
  let c0_i32_188 : BitVec 32 := 0#32
  let c13_i32_186 : BitVec 32 := 13#32
  let c1_i32_187 : BitVec 32 := 1#32
  let v307 : BitVec 32 := Scalar.muli c13_i32_186 c1_i32_187
  let v308 : BitVec 32 := Scalar.addi c0_i32_188 v307
  v308.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_17 : BitVec 32 := 0#32
  let v48 : BitVec 1 := Scalar.cmpi .ne v47 c0_i32_17
  v48

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev15 : Nat :=
  let c0_i32_188 : BitVec 32 := 0#32
  let c14_i32_186 : BitVec 32 := 14#32
  let c1_i32_187 : BitVec 32 := 1#32
  let v307 : BitVec 32 := Scalar.muli c14_i32_186 c1_i32_187
  let v308 : BitVec 32 := Scalar.addi c0_i32_188 v307
  v308.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_18 : BitVec 32 := 0#32
  let v51 : BitVec 1 := Scalar.cmpi .ne v50 c0_i32_18
  v51

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev16 : Nat :=
  let c0_i32_188 : BitVec 32 := 0#32
  let c15_i32_186 : BitVec 32 := 15#32
  let c1_i32_187 : BitVec 32 := 1#32
  let v307 : BitVec 32 := Scalar.muli c15_i32_186 c1_i32_187
  let v308 : BitVec 32 := Scalar.addi c0_i32_188 v307
  v308.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let v52 : BitVec 1 := Scalar.cmpi .ne v2 c0_i32_19
  let v53 : BitVec 32 := Scalar.extui v52
  let c0_i32_20 : BitVec 32 := 0#32
  let v54 : BitVec 1 := Scalar.cmpi .ne v53 c0_i32_20
  v54

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev17 : Nat :=
  let c0_i32_197 : BitVec 32 := 0#32
  let c0_i32_195 : BitVec 32 := 0#32
  let c1_i32_196 : BitVec 32 := 1#32
  let v313 : BitVec 32 := Scalar.muli c0_i32_195 c1_i32_196
  let v314 : BitVec 32 := Scalar.addi c0_i32_197 v313
  v314.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_21 : BitVec 32 := 1#32
  let v55 : BitVec 1 := Scalar.cmpi .ne v2 c1_i32_21
  let v56 : BitVec 32 := Scalar.extui v55
  let c0_i32_22 : BitVec 32 := 0#32
  let v57 : BitVec 1 := Scalar.cmpi .ne v56 c0_i32_22
  v57

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev18 : Nat :=
  let c0_i32_197 : BitVec 32 := 0#32
  let c1_i32_195 : BitVec 32 := 1#32
  let c1_i32_196 : BitVec 32 := 1#32
  let v313 : BitVec 32 := Scalar.muli c1_i32_195 c1_i32_196
  let v314 : BitVec 32 := Scalar.addi c0_i32_197 v313
  v314.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_23 : BitVec 32 := 2#32
  let v58 : BitVec 1 := Scalar.cmpi .ne v2 c2_i32_23
  let v59 : BitVec 32 := Scalar.extui v58
  let c0_i32_24 : BitVec 32 := 0#32
  let v60 : BitVec 1 := Scalar.cmpi .ne v59 c0_i32_24
  v60

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev19 : Nat :=
  let c0_i32_197 : BitVec 32 := 0#32
  let c2_i32_195 : BitVec 32 := 2#32
  let c1_i32_196 : BitVec 32 := 1#32
  let v313 : BitVec 32 := Scalar.muli c2_i32_195 c1_i32_196
  let v314 : BitVec 32 := Scalar.addi c0_i32_197 v313
  v314.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_25 : BitVec 32 := 3#32
  let v61 : BitVec 1 := Scalar.cmpi .ne v2 c3_i32_25
  let v62 : BitVec 32 := Scalar.extui v61
  let c0_i32_26 : BitVec 32 := 0#32
  let v63 : BitVec 1 := Scalar.cmpi .ne v62 c0_i32_26
  v63

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev20 : Nat :=
  let c0_i32_197 : BitVec 32 := 0#32
  let c3_i32_195 : BitVec 32 := 3#32
  let c1_i32_196 : BitVec 32 := 1#32
  let v313 : BitVec 32 := Scalar.muli c3_i32_195 c1_i32_196
  let v314 : BitVec 32 := Scalar.addi c0_i32_197 v313
  v314.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v64 : BitVec 1 := Scalar.cmpi .ne v2 c4_i32_27
  let v65 : BitVec 32 := Scalar.extui v64
  let c0_i32_28 : BitVec 32 := 0#32
  let v66 : BitVec 1 := Scalar.cmpi .ne v65 c0_i32_28
  v66

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev21 : Nat :=
  let c0_i32_197 : BitVec 32 := 0#32
  let c4_i32_195 : BitVec 32 := 4#32
  let c1_i32_196 : BitVec 32 := 1#32
  let v313 : BitVec 32 := Scalar.muli c4_i32_195 c1_i32_196
  let v314 : BitVec 32 := Scalar.addi c0_i32_197 v313
  v314.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_29 : BitVec 32 := 5#32
  let v67 : BitVec 1 := Scalar.cmpi .ne v2 c5_i32_29
  let v68 : BitVec 32 := Scalar.extui v67
  let c0_i32_30 : BitVec 32 := 0#32
  let v69 : BitVec 1 := Scalar.cmpi .ne v68 c0_i32_30
  v69

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev22 : Nat :=
  let c0_i32_197 : BitVec 32 := 0#32
  let c5_i32_195 : BitVec 32 := 5#32
  let c1_i32_196 : BitVec 32 := 1#32
  let v313 : BitVec 32 := Scalar.muli c5_i32_195 c1_i32_196
  let v314 : BitVec 32 := Scalar.addi c0_i32_197 v313
  v314.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_31 : BitVec 32 := 6#32
  let v70 : BitVec 1 := Scalar.cmpi .ne v2 c6_i32_31
  let v71 : BitVec 32 := Scalar.extui v70
  let c0_i32_32 : BitVec 32 := 0#32
  let v72 : BitVec 1 := Scalar.cmpi .ne v71 c0_i32_32
  v72

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev23 : Nat :=
  let c0_i32_197 : BitVec 32 := 0#32
  let c6_i32_195 : BitVec 32 := 6#32
  let c1_i32_196 : BitVec 32 := 1#32
  let v313 : BitVec 32 := Scalar.muli c6_i32_195 c1_i32_196
  let v314 : BitVec 32 := Scalar.addi c0_i32_197 v313
  v314.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_33 : BitVec 32 := 7#32
  let v73 : BitVec 1 := Scalar.cmpi .ne v2 c7_i32_33
  let v74 : BitVec 32 := Scalar.extui v73
  let c0_i32_34 : BitVec 32 := 0#32
  let v75 : BitVec 1 := Scalar.cmpi .ne v74 c0_i32_34
  v75

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev24 : Nat :=
  let c0_i32_197 : BitVec 32 := 0#32
  let c7_i32_195 : BitVec 32 := 7#32
  let c1_i32_196 : BitVec 32 := 1#32
  let v313 : BitVec 32 := Scalar.muli c7_i32_195 c1_i32_196
  let v314 : BitVec 32 := Scalar.addi c0_i32_197 v313
  v314.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_35 : BitVec 32 := 8#32
  let v76 : BitVec 1 := Scalar.cmpi .ne v2 c8_i32_35
  let v77 : BitVec 32 := Scalar.extui v76
  let c0_i32_36 : BitVec 32 := 0#32
  let v78 : BitVec 1 := Scalar.cmpi .ne v77 c0_i32_36
  v78

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev25 : Nat :=
  let c0_i32_197 : BitVec 32 := 0#32
  let c8_i32_195 : BitVec 32 := 8#32
  let c1_i32_196 : BitVec 32 := 1#32
  let v313 : BitVec 32 := Scalar.muli c8_i32_195 c1_i32_196
  let v314 : BitVec 32 := Scalar.addi c0_i32_197 v313
  v314.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_37 : BitVec 32 := 9#32
  let v79 : BitVec 1 := Scalar.cmpi .ne v2 c9_i32_37
  let v80 : BitVec 32 := Scalar.extui v79
  let c0_i32_38 : BitVec 32 := 0#32
  let v81 : BitVec 1 := Scalar.cmpi .ne v80 c0_i32_38
  v81

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev26 : Nat :=
  let c0_i32_197 : BitVec 32 := 0#32
  let c9_i32_195 : BitVec 32 := 9#32
  let c1_i32_196 : BitVec 32 := 1#32
  let v313 : BitVec 32 := Scalar.muli c9_i32_195 c1_i32_196
  let v314 : BitVec 32 := Scalar.addi c0_i32_197 v313
  v314.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_39 : BitVec 32 := 10#32
  let v82 : BitVec 1 := Scalar.cmpi .ne v2 c10_i32_39
  let v83 : BitVec 32 := Scalar.extui v82
  let c0_i32_40 : BitVec 32 := 0#32
  let v84 : BitVec 1 := Scalar.cmpi .ne v83 c0_i32_40
  v84

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev27 : Nat :=
  let c0_i32_197 : BitVec 32 := 0#32
  let c10_i32_195 : BitVec 32 := 10#32
  let c1_i32_196 : BitVec 32 := 1#32
  let v313 : BitVec 32 := Scalar.muli c10_i32_195 c1_i32_196
  let v314 : BitVec 32 := Scalar.addi c0_i32_197 v313
  v314.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_41 : BitVec 32 := 11#32
  let v85 : BitVec 1 := Scalar.cmpi .ne v2 c11_i32_41
  let v86 : BitVec 32 := Scalar.extui v85
  let c0_i32_42 : BitVec 32 := 0#32
  let v87 : BitVec 1 := Scalar.cmpi .ne v86 c0_i32_42
  v87

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev28 : Nat :=
  let c0_i32_197 : BitVec 32 := 0#32
  let c11_i32_195 : BitVec 32 := 11#32
  let c1_i32_196 : BitVec 32 := 1#32
  let v313 : BitVec 32 := Scalar.muli c11_i32_195 c1_i32_196
  let v314 : BitVec 32 := Scalar.addi c0_i32_197 v313
  v314.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_43 : BitVec 32 := 12#32
  let v88 : BitVec 1 := Scalar.cmpi .ne v2 c12_i32_43
  let v89 : BitVec 32 := Scalar.extui v88
  let c0_i32_44 : BitVec 32 := 0#32
  let v90 : BitVec 1 := Scalar.cmpi .ne v89 c0_i32_44
  v90

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev29 : Nat :=
  let c0_i32_197 : BitVec 32 := 0#32
  let c12_i32_195 : BitVec 32 := 12#32
  let c1_i32_196 : BitVec 32 := 1#32
  let v313 : BitVec 32 := Scalar.muli c12_i32_195 c1_i32_196
  let v314 : BitVec 32 := Scalar.addi c0_i32_197 v313
  v314.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_45 : BitVec 32 := 13#32
  let v91 : BitVec 1 := Scalar.cmpi .ne v2 c13_i32_45
  let v92 : BitVec 32 := Scalar.extui v91
  let c0_i32_46 : BitVec 32 := 0#32
  let v93 : BitVec 1 := Scalar.cmpi .ne v92 c0_i32_46
  v93

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev30 : Nat :=
  let c0_i32_197 : BitVec 32 := 0#32
  let c13_i32_195 : BitVec 32 := 13#32
  let c1_i32_196 : BitVec 32 := 1#32
  let v313 : BitVec 32 := Scalar.muli c13_i32_195 c1_i32_196
  let v314 : BitVec 32 := Scalar.addi c0_i32_197 v313
  v314.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_47 : BitVec 32 := 14#32
  let v94 : BitVec 1 := Scalar.cmpi .ne v2 c14_i32_47
  let v95 : BitVec 32 := Scalar.extui v94
  let c0_i32_48 : BitVec 32 := 0#32
  let v96 : BitVec 1 := Scalar.cmpi .ne v95 c0_i32_48
  v96

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev31 : Nat :=
  let c0_i32_197 : BitVec 32 := 0#32
  let c14_i32_195 : BitVec 32 := 14#32
  let c1_i32_196 : BitVec 32 := 1#32
  let v313 : BitVec 32 := Scalar.muli c14_i32_195 c1_i32_196
  let v314 : BitVec 32 := Scalar.addi c0_i32_197 v313
  v314.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v97 : BitVec 1 := Scalar.cmpi .ne v2 c15_i32_49
  let v98 : BitVec 32 := Scalar.extui v97
  let c0_i32_50 : BitVec 32 := 0#32
  let v99 : BitVec 1 := Scalar.cmpi .ne v98 c0_i32_50
  v99

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_198 : BitVec 32 := 0#32
  let c0_i32_199 : BitVec 32 := 0#32
  ![v2.toNat, 0, 0]
def k0_dev32 : Nat :=
  let c0_i32_197 : BitVec 32 := 0#32
  let c15_i32_195 : BitVec 32 := 15#32
  let c1_i32_196 : BitVec 32 := 1#32
  let v313 : BitVec 32 := Scalar.muli c15_i32_195 c1_i32_196
  let v314 : BitVec 32 := Scalar.addi c0_i32_197 v313
  v314.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v100 : BitVec 32 := Scalar.muli v2 c64_i32
  let v101 : Index := Scalar.indexCast v100
  let c0 : Index := 0#32
  ![v101.toNat, 0]
def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v105 : Index := Scalar.indexCast v2
  let c0_51 : Index := 0#32
  let c0_52 : Index := 0#32
  ![v105.toNat, 0, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cells.lean ====
/-
The all-to-all matrix product, `Cells`: the buffers, semaphore cells and contents of the kernel, the schedule of its
semaphores, and the order in which they are waited on.

Sixteen devices. Device `c` holds 64 columns of `x` (1024 rows, in sixteen blocks of 64 rows) and all of `w`.
Block `j` of its columns goes to device `j`, into slot `c` of `j`'s receive buffer. The protocol, cell by cell
(every cell of device `c`, one round, one duty):

* the barrier cell: `c` signals it and waits for it itself; nothing is handed over;
* the `w` cell: `c`'s own copy of `w` from the argument buffer completes on it; the wait hands back both buffers;
* the credit cell `j` (`j ≠ c`): device `j` signals it, handing over slot `c` of `j`'s receive buffer; `c` waits for
  it before sending to `j`;
* the send cell `j` (`j ≠ c`): `c`'s own transfer to `j` completes on it, handing back slot `j` of `c`'s send buffer;
* the receive cell `j` (`j ≠ c`): the transfer of device `j` completes on it, handing over slot `j` of `c`'s receive
  buffer, which holds block `c` of `j`'s columns of `x`, rounded.

The credit, send and receive cells at the device's own index are never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging copies' and this kernel's own cells -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Buffers -/

abbrev xM : Memref sig .tc .vmem S1024x64 .f32 := Memref.whole cc0_stg0_0
abbrev aM : Memref sig .tc .hbm S1024x1024 .f32 := Memref.whole main_arg1
abbrev oM : Memref sig .tc .vmem S64x1024 .f32 := Memref.whole cc0_stg1_0
abbrev rM : Memref sig .tc .vmem S16x64x64 .bf16 := Memref.whole cc0_scratch0
abbrev sM : Memref sig .tc .vmem S16x64x64 .bf16 := Memref.whole cc0_scratch1
abbrev wM : Memref sig .tc .vmem S1024x1024 .f32 := Memref.whole cc0_scratch2

theorem slot_inb (j : Dev nD) : ∀ a, (![j.val, 0, 0] : Fin 3 → ℕ) a + S1x64x64.size a ≤ S16x64x64.size a := by
  revert j; decide
theorem sem_inb (j : Dev nD) : ∀ a, (![j.val] : Fin 1 → ℕ) a + S1.size a ≤ S16.size a := by revert j; decide
theorem xrow_inb (j : Dev nD) : ∀ a, (![64 * j.val, 0] : Fin 2 → ℕ) a + S64x64.size a ≤ S1024x64.size a := by
  revert j; decide
theorem wrow_inb (j : Dev nD) : ∀ a, (![64 * j.val, 0] : Fin 2 → ℕ) a + S64x1024.size a ≤ S1024x1024.size a := by
  revert j; decide

/-- Slot `j` of a sixteen-slot buffer; -/
abbrev slotR (j : Dev nD) : Rect S16x64x64 := Rect.unit (s := S16x64x64) ![j.val, 0, 0] S1x64x64.size (slot_inb j)
/-- rows `64 j` to `64 j + 63` of a device's columns of `x`; -/
abbrev xrowR (j : Dev nD) : Rect S1024x64 := Rect.unit (s := S1024x64) ![64 * j.val, 0] S64x64.size (xrow_inb j)
/-- and of `w`. -/
abbrev wrowR (j : Dev nD) : Rect S1024x1024 := Rect.unit (s := S1024x1024) ![64 * j.val, 0] S64x1024.size (wrow_inb j)

/-- Slot `j` of the receive buffer and of the send buffer, as a transfer names them. -/
abbrev rD (j : Dev nD) : Memref sig .tc .vmem S64x64 .bf16 :=
  (rM.slice (slotR j) (fun _ => rfl)).squeeze S64x64 squeezes_S1x64x64_S64x64
abbrev sD (j : Dev nD) : Memref sig .tc .vmem S64x64 .bf16 :=
  (sM.slice (slotR j) (fun _ => rfl)).squeeze S64x64 squeezes_S1x64x64_S64x64

/-! ## Semaphores and cells -/

abbrev barS : Sem sig := (SemArray.scalar (sig.barrier 0 rfl) : Sems sig S_).sem
abbrev wS : DmaSem sig := SemArray.sem cc0_scratch6
abbrev sendS (j : Dev nD) : DmaSem sig :=
  ((SemArray.slice cc0_scratch3 (Rect.unit (s := S16) ![j.val] S1.size (sem_inb j))).squeeze S_ squeezes_S1_S_).sem
abbrev recvS (j : Dev nD) : DmaSem sig :=
  ((SemArray.slice cc0_scratch4 (Rect.unit (s := S16) ![j.val] S1.size (sem_inb j))).squeeze S_ squeezes_S1_S_).sem
abbrev credS (j : Dev nD) : Sem sig :=
  ((SemArray.slice cc0_scratch5 (Rect.unit (s := S16) ![j.val] S1.size (sem_inb j))).squeeze S_ squeezes_S1_S_).sem

/-- The kernel's own (scoped) semaphores: `w`'s, then by kind (send, receive, credit) and index; -/
abbrev KO : Type := Unit ⊕ (Fin 3 × Dev nD)
/-- all of a device's semaphores: the barrier, then its own. -/
abbrev KA : Type := Unit ⊕ KO

abbrev osem : KO → SemLoc sig
  | .inl _ => .dma wS
  | .inr (0, j) => .dma (sendS j)
  | .inr (1, j) => .dma (recvS j)
  | .inr (2, j) => .reg (credS j)
abbrev csem : KA → SemLoc sig
  | .inl _ => .reg barS
  | .inr k => osem k
abbrev kcell (ck : Dev nD × KA) : GSem nD τ sig := ((ck.1 : Thread nD τ), csem ck.2)

abbrev kBar : KA := .inl ()
abbrev kW : KA := .inr (.inl ())
abbrev kSend (j : Dev nD) : KA := .inr (.inr (0, j))
abbrev kRecv (j : Dev nD) : KA := .inr (.inr (1, j))
abbrev kCred (j : Dev nD) : KA := .inr (.inr (2, j))

abbrev barCell (c : Dev nD) : GSem nD τ sig := ((c : Thread nD τ), .reg barS)
abbrev wCell (c : Dev nD) : GSem nD τ sig := ((c : Thread nD τ), .dma wS)
abbrev sendCell (c j : Dev nD) : GSem nD τ sig := ((c : Thread nD τ), .dma (sendS j))
abbrev recvCell (c j : Dev nD) : GSem nD τ sig := ((c : Thread nD τ), .dma (recvS j))
abbrev credCell (c j : Dev nD) : GSem nD τ sig := ((c : Thread nD τ), .reg (credS j))

theorem csem_injective : Function.Injective csem := by
  have h : ∀ k k' : KA, csem k = csem k' → k = k' := by decide +kernel
  exact fun k k' => h k k'

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- The device and semaphore a cell is, if it is one of the kernel's. -/
def kOf (g : GSem nD τ sig) : Option (Dev nD × KA) :=
  open Classical in if h : ∃ ck, kcell ck = g then some h.choose else none

theorem kOf_kcell (ck : Dev nD × KA) : kOf (kcell ck) = some ck := by
  unfold kOf
  rw [dif_pos ⟨ck, rfl⟩]
  exact congrArg some (kcell_injective (Exists.choose_spec (⟨ck, rfl⟩ : ∃ ck', kcell ck' = kcell ck)))

/-- What one block's transfer counts for; what the copy of `w` does. -/
@[irreducible] def N : ℕ := (rD 0).view.dmaCredit
@[irreducible] def NW : ℕ := (wM : Memref sig .tc .vmem S1024x1024 .f32).view.dmaCredit
theorem N_pos : 0 < N := by unfold N; exact View.dmaCredit_pos _ (by decide)
theorem NW_pos : 0 < NW := by unfold NW; exact View.dmaCredit_pos _ (by decide)
theorem rD_credit (j : Dev nD) : (rD j).view.dmaCredit = N := by unfold N; rfl
theorem sD_credit (j : Dev nD) : (sD j).view.dmaCredit = N := by unfold N; rfl
theorem wM_credit : (wM : Memref sig .tc .vmem S1024x1024 .f32).view.dmaCredit = NW := by unfold NW; rfl

/-! ## Contents -/

/-- Device `c`'s columns of `x`; its copy of `w`. -/
def xstg (c : Dev nD) : (cc0_stg0_0 : Ref sig .tc).ty.Contents (Elt F) :=
  (win0_0.blk (0 : Fin 1)).view.read (Elt F) ((s₀ m ρ).mem ((c : Thread nD τ).loc main_arg0))
def wAt (c : Dev nD) : (main_arg1 : Ref sig .tc).ty.Contents (Elt F) := m ((c : Thread nD τ).loc main_arg1)

/-- What device `s` sends device `d`: block `d` of its columns of `x`, rounded. -/
def sent (d s : Dev nD) : S1x64x64.Idx → Elt F .bf16 :=
  k0_pay1 ((xM.access (xrowR d)).read (Elt F) (xstg m ρ s))

abbrev rSet (j : Dev nD) : Finset (cc0_scratch0 : Ref sig .tc).ty.Idx := (rM.access (slotR j)).set
abbrev sSet (j : Dev nD) : Finset (cc0_scratch1 : Ref sig .tc).ty.Idx := (sM.access (slotR j)).set

/-- Slot `j` of device `c`'s receive buffer at contents `f`; of its send buffer. -/
def rPts (c j : Dev nD) (f : Buf (Elt F) ((c : Thread nD τ).loc cc0_scratch0)) : sProp 𝕄 :=
  ((c : Thread nD τ).loc cc0_scratch0) ↦[rSet j]{fullShare} f
def sPts (c j : Dev nD) (f : Buf (Elt F) ((c : Thread nD τ).loc cc0_scratch1)) : sProp 𝕄 :=
  ((c : Thread nD τ).loc cc0_scratch1) ↦[sSet j]{fullShare} f
/-- Slot `j` of device `c`'s receive buffer holding what device `j` sends `c`. -/
def rHolds (c j : Dev nD) : sProp 𝕄 :=
  iprop(∃ f, ⌜(rM.access (slotR j)).read (Elt F) f = sent m ρ c j⌝ ∗ rPts c j f)
/-- Device `c`'s copy of `w`, and its argument buffer. -/
def wPts (c : Dev nD) : sProp 𝕄 := ((c : Thread nD τ).loc cc0_scratch2) ↦{fullShare} wAt m c
def aPts (c : Dev nD) : sProp 𝕄 := ((c : Thread nD τ).loc main_arg1) ↦{fullShare} wAt m c
def xPts (c : Dev nD) : sProp 𝕄 := ((c : Thread nD τ).loc cc0_stg0_0) ↦{fullShare} xstg m ρ c
def rAny (c j : Dev nD) : sProp 𝕄 := iprop(∃ f, rPts c j f)
def sAny (c j : Dev nD) : sProp 𝕄 := iprop(∃ f, sPts c j f)

/-! ## The schedule -/

/-- The duties of a cell's round: one, but none at a device's own index; -/
def kduties : Dev nD × KA → Finset Unit
  | (_, .inl _) => {()}
  | (_, .inr (.inl _)) => {()}
  | (c, .inr (.inr (_, j))) => if j = c then ∅ else {()}
/-- what it counts for; -/
def kamt : KA → ℕ
  | .inl _ => 1
  | .inr (.inl _) => NW
  | .inr (.inr (0, _)) => N
  | .inr (.inr (1, _)) => N
  | .inr (.inr (2, _)) => 1
/-- what it hands over. -/
def kpay : Dev nD × KA → sProp 𝕄
  | (_, .inl _) => iprop(emp)
  | (c, .inr (.inl _)) => iprop(wPts m c ∗ aPts m c)
  | (c, .inr (.inr (0, j))) => sAny c j
  | (c, .inr (.inr (1, j))) => rHolds m ρ c j
  | (c, .inr (.inr (2, j))) => rAny j c

theorem kamt_pos : (k : KA) → 0 < kamt k
  | .inl _ => Nat.one_pos
  | .inr (.inl _) => NW_pos
  | .inr (.inr (0, _)) => N_pos
  | .inr (.inr (1, _)) => N_pos
  | .inr (.inr (2, _)) => Nat.one_pos

instance rAny_storable (c j : Dev nD) : BI.Storable (upEmb : UEmb _ 𝕄) (rAny (F := F) c j) := by
  unfold rAny rPts; infer_instance
instance sAny_storable (c j : Dev nD) : BI.Storable (upEmb : UEmb _ 𝕄) (sAny (F := F) c j) := by
  unfold sAny sPts; infer_instance
instance rHolds_storable (c j : Dev nD) : BI.Storable (upEmb : UEmb _ 𝕄) (rHolds (F := F) m ρ c j) := by
  unfold rHolds rPts; infer_instance
instance wPay_storable (c : Dev nD) : BI.Storable (upEmb : UEmb _ 𝕄) (iprop(wPts (F := F) m c ∗ aPts m c)) := by
  unfold wPts aPts; infer_instance
instance emp_storable' : BI.Storable (upEmb : UEmb _ 𝕄) (iprop(emp) : sProp 𝕄) := inferInstance

instance kpay_storable : (ck : Dev nD × KA) → BI.Storable (upEmb : UEmb _ 𝕄) (kpay (F := F) m ρ ck)
  | (_, .inl _) => emp_storable'
  | (c, .inr (.inl _)) => wPay_storable m c
  | (c, .inr (.inr (0, j))) => sAny_storable c j
  | (c, .inr (.inr (1, j))) => rHolds_storable m ρ c j
  | (c, .inr (.inr (2, j))) => rAny_storable j c

/-- One round, round 0. -/
def sched : Rounds.Schedule (GSem nD τ sig) Unit 𝕄 where
  duties g r := if r = 0 then (kOf g).elim ∅ kduties else ∅
  unitless _ := False
  amount g _ _ := (kOf g).elim 1 fun ck => kamt ck.2
  payload g _ _ := (kOf g).elim iprop(emp) (kpay m ρ)
  amount_pos g _ _ _ := by
    cases kOf g with
    | none => exact Nat.one_pos
    | some ck => exact kamt_pos ck.2

instance sched_payload_storable (g : GSem nD τ sig) (r : ℕ) (d : Unit) :
    BI.Storable (upEmb : UEmb _ 𝕄) ((sched (F := F) m ρ).payload g r d) := by
  show BI.Storable upEmb ((kOf g).elim iprop(emp) (kpay m ρ))
  cases kOf g with
  | none => show BI.Storable upEmb (iprop(emp) : sProp 𝕄); infer_instance
  | some ck => exact kpay_storable m ρ ck

section Sched
variable (ck : Dev nD × KA)

theorem duties_at : (sched (F := F) m ρ).duties (kcell ck) 0 = kduties ck := by
  dsimp only [sched]; rw [if_pos rfl, kOf_kcell]; rfl
theorem duties_later (g : GSem nD τ sig) : ∀ r, 1 ≤ r → (sched (F := F) m ρ).duties g r = ∅ :=
  fun r hr => by dsimp only [sched]; rw [if_neg fun h => by omega]
/-- A cell without duties has none in any round. -/
theorem duties_none (h : kduties ck = ∅) : ∀ r, 0 ≤ r → (sched (F := F) m ρ).duties (kcell ck) r = ∅ := fun r _ => by
  rcases r with _ | r
  · rw [duties_at, h]
  · exact duties_later m ρ _ _ (by omega)
theorem amount_at (d : Unit) : (sched (F := F) m ρ).amount (kcell ck) 0 d = kamt ck.2 := by
  dsimp only [sched]; rw [kOf_kcell]; rfl
theorem payload_at (d : Unit) : (sched (F := F) m ρ).payload (kcell ck) 0 d = kpay m ρ ck := by
  dsimp only [sched]; rw [kOf_kcell]; rfl
theorem expect_at (h : kduties ck = {()}) : (sched (F := F) m ρ).expect (kcell ck) 0 = kamt ck.2 := by
  unfold Schedule.expect Schedule.amountOf; rw [duties_at, h, Finset.sum_singleton, amount_at]
/-- What a wait on a cell with its one duty hands over. -/
theorem rest_at (h : kduties ck = {()}) :
    bigSep ((sched (F := F) m ρ).duties (kcell ck) 0 \ ∅) (fun d => (sched (F := F) m ρ).payload (kcell ck) 0 d) = kpay m ρ ck := by
  rw [Finset.sdiff_empty, duties_at, h, bigSep_singleton, payload_at]
theorem duty_mem (h : kduties ck = {()}) : () ∈ (sched (F := F) m ρ).duties (kcell ck) 0 := by
  rw [duties_at, h]; exact Finset.mem_singleton_self _
end Sched

theorem kduties_ix {c j : Dev nD} (t : Fin 3) (h : j ≠ c) : kduties (c, .inr (.inr (t, j))) = {()} := if_neg h
theorem kduties_own (c : Dev nD) (t : Fin 3) : kduties (c, .inr (.inr (t, c))) = ∅ := if_pos rfl

/-! ## What a device owes, and the order of the waits -/

/-- The credits device `c` has still to signal, and the transfers it has still to make, from device `n` on. -/
def owedA (c : Dev nD) (n : ℕ) : CellTallies nD τ sig Unit :=
  ∑ j ∈ Finset.univ.filter (fun j : Dev nD => n ≤ j.val ∧ j ≠ c), tallyAt (credCell j c) () 1
def owedB (c : Dev nD) (n : ℕ) : CellTallies nD τ sig Unit :=
  ∑ j ∈ Finset.univ.filter (fun j : Dev nD => n ≤ j.val ∧ j ≠ c), tallyAt (recvCell j c) () N
/-- What device `c` owes at launch: those, and its own barrier's unit. -/
def O₀ (c : Dev nD) : CellTallies nD τ sig Unit := owedB c 0 + owedA c 0 + tallyAt (barCell c) () 1

section Owed
variable (T : Dev nD → CellTallies nD τ sig Unit) (c : Dev nD)

theorem owed_filter_succ (j : Dev nD) (h : j ≠ c) :
    (∑ i ∈ Finset.univ.filter (fun i : Dev nD => j.val ≤ i.val ∧ i ≠ c), T i)
      = (∑ i ∈ Finset.univ.filter (fun i : Dev nD => j.val + 1 ≤ i.val ∧ i ≠ c), T i) + T j := by
  have e : Finset.univ.filter (fun i : Dev nD => j.val ≤ i.val ∧ i ≠ c)
      = insert j (Finset.univ.filter (fun i : Dev nD => j.val + 1 ≤ i.val ∧ i ≠ c)) := by
    ext i
    simp only [Finset.mem_filter, Finset.mem_univ, true_and, Finset.mem_insert]
    constructor
    · rintro ⟨h1, h2⟩
      by_cases hij : i = j
      · exact .inl hij
      · exact .inr ⟨by have : i.val ≠ j.val := fun h' => hij (Fin.ext h'); omega, h2⟩
    · rintro (rfl | ⟨h1, h2⟩)
      · exact ⟨le_refl _, h⟩
      · exact ⟨by omega, h2⟩
  rw [e, Finset.sum_insert (by simp), add_comm]

theorem owed_filter_own :
    (∑ i ∈ Finset.univ.filter (fun i : Dev nD => c.val ≤ i.val ∧ i ≠ c), T i)
      = ∑ i ∈ Finset.univ.filter (fun i : Dev nD => c.val + 1 ≤ i.val ∧ i ≠ c), T i := by
  congr 1
  ext i
  simp only [Finset.mem_filter, Finset.mem_univ, true_and]
  constructor
  · rintro ⟨h1, h2⟩; exact ⟨by have : i.val ≠ c.val := fun h' => h2 (Fin.ext h'); omega, h2⟩
  · rintro ⟨h1, h2⟩; exact ⟨by omega, h2⟩

theorem owed_filter_end :
    (∑ i ∈ Finset.univ.filter (fun i : Dev nD => 16 ≤ i.val ∧ i ≠ c), T i) = 0 := by
  apply Finset.sum_eq_zero
  intro i hi
  have h1 := (Finset.mem_filter.mp hi).2.1
  have h2 : i.val < 16 := i.isLt
  omega

end Owed

theorem owedA_succ (c j : Dev nD) (h : j ≠ c) : owedA c j.val = owedA c (j.val + 1) + tallyAt (credCell j c) () 1 :=
  owed_filter_succ _ c j h
theorem owedB_succ (c j : Dev nD) (h : j ≠ c) : owedB c j.val = owedB c (j.val + 1) + tallyAt (recvCell j c) () N :=
  owed_filter_succ _ c j h
theorem owedA_own (c : Dev nD) : owedA c c.val = owedA c (c.val + 1) := owed_filter_own _ c
theorem owedB_own (c : Dev nD) : owedB c c.val = owedB c (c.val + 1) := owed_filter_own _ c
theorem owedA_end (c : Dev nD) : owedA c 16 = 0 := owed_filter_end _ c
theorem owedB_end (c : Dev nD) : owedB c 16 = 0 := owed_filter_end _ c

def L (g : GSem nD τ sig) : Finset Unit := if g.1.2 = .tc then {()} else ∅
/-- The kernel's cells in the order they are waited on: staging, send and `w` cells at 0, the barrier at 1, the
    credits at 2, the receive cells at 3. -/
def klev : Dev nD × KA → ℕ
  | (_, .inl _) => 1
  | (_, .inr (.inl _)) => 0
  | (_, .inr (.inr (0, _))) => 0
  | (_, .inr (.inr (1, _))) => 3
  | (_, .inr (.inr (2, _))) => 2
def lv (g : GSem nD τ sig) (_ : Unit) : ℕ := (kOf g).elim 0 klev

theorem L_of_ne (g : GSem nD τ sig) (h : g.1.2 ≠ .tc) : L g = ∅ := if_neg h
theorem L_tc (c : Dev nD) (sm : SemLoc sig) : L ((c : Thread nD τ), sm) = {()} := if_pos rfl
theorem lv_at (ck : Dev nD × KA) (u : Unit) : lv (kcell ck) u = klev ck := by unfold lv; rw [kOf_kcell]; rfl

theorem lv_bar (c : Dev nD) : lv (barCell c) () = 1 := lv_at (c, kBar) ()
theorem lv_w (c : Dev nD) : lv (wCell c) () = 0 := lv_at (c, kW) ()
theorem lv_send (c j : Dev nD) : lv (sendCell c j) () = 0 := lv_at (c, kSend j) ()
theorem lv_recv (c j : Dev nD) : lv (recvCell c j) () = 3 := lv_at (c, kRecv j) ()
theorem lv_cred (c j : Dev nD) : lv (credCell c j) () = 2 := lv_at (c, kCred j) ()

theorem sum_tallies_pos {T : Dev nD → CellTallies nD τ sig Unit} {S : Finset (Dev nD)} {g : GSem nD τ sig} {u : Unit}
    (h : 0 < (∑ j ∈ S, T j) g u) : ∃ j ∈ S, 0 < T j g u := by
  by_contra hn
  have hz : ∀ j ∈ S, T j g u = 0 := fun j hj => by
    by_contra h0; exact hn ⟨j, hj, Nat.pos_of_ne_zero h0⟩
  rw [Finset.sum_apply, Finsupp.finset_sum_apply, Finset.sum_eq_zero hz] at h
  exact Nat.lt_irrefl 0 h

theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem owedA_pos {c : Dev nD} {n : ℕ} {g : GSem nD τ sig} {u : Unit} (h : 0 < owedA c n g u) : ∃ j, g = kcell (j, kCred c) := by
  obtain ⟨j, -, hj⟩ := sum_tallies_pos h; exact ⟨j, tally_pos hj⟩
theorem owedB_pos {c : Dev nD} {n : ℕ} {g : GSem nD τ sig} {u : Unit} (h : 0 < owedB c n g u) : ∃ j, g = kcell (j, kRecv c) := by
  obtain ⟨j, -, hj⟩ := sum_tallies_pos h; exact ⟨j, tally_pos hj⟩

/-- Whatever of the launch debt is still owed names the kernel's own cells, above level 0. -/
def Above (l : ℕ) (O : CellTallies nD τ sig Unit) : Prop :=
  ∀ g u, 0 < O g u → ∃ ck, g = kcell ck ∧ l < klev ck

theorem above_owedB (c : Dev nD) (n : ℕ) : Above 2 (owedB c n) := fun g u h => by
  obtain ⟨j, rfl⟩ := owedB_pos h; exact ⟨_, rfl, by show 2 < 3; omega⟩
theorem above_owedA (c : Dev nD) (n : ℕ) : Above 1 (owedA c n) := fun g u h => by
  obtain ⟨j, rfl⟩ := owedA_pos h; exact ⟨_, rfl, by show 1 < 2; omega⟩
theorem above_bar (c : Dev nD) : Above 0 (tallyAt (barCell c) () 1) := fun g u h => ⟨(c, kBar), tally_pos h, by show 0 < 1; omega⟩
theorem above_zero (l : ℕ) : Above l 0 := fun g u h => absurd h (Nat.lt_irrefl 0)
theorem Above.mono {l l' : ℕ} {O : CellTallies nD τ sig Unit} (h : Above l O) (hl : l' ≤ l) : Above l' O := fun g u hg => by
  obtain ⟨ck, e, hk⟩ := h g u hg; exact ⟨ck, e, by omega⟩
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem above_O₀ (c : Dev nD) : Above 0 (O₀ c) :=
  (((above_owedB c 0).mono (by omega)).add ((above_owedA c 0).mono (by omega))).add (above_bar c)

/-- A wait on a cell no higher than `l` may be made while all that is owed lies above `l`. -/
theorem mayWait (c : Dev nD) (sm : SemLoc sig) (l : ℕ) (hsm : lv ((c : Thread nD τ), sm) () ≤ l) (O : CellTallies nD τ sig Unit)
    (hO : Above l O) : (levAts L lv : sProp 𝕄) ⊢ MayWait (c : Thread nD τ) sm () O :=
  MayOwe.of_cut (L := L) (lev := lv) l
    (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; exact hsm)
    (fun g u hg => by obtain ⟨ck, rfl, h⟩ := hO g u hg; rw [lv_at]; exact h)

abbrev 𝒱₀ : Variants := Variants.none

/-- The kernel's own semaphores are distinct, scoped, and none of the staging copies'. -/
theorem ownSemFacts : Pipeline.OwnSemFacts cfg0.spec osem := by decide +kernel

end Cert.A2A

end
-- ==== Proof.Steps.lean ====
/-
The all-to-all matrix product, `Steps`: what one step of the kernel does, stated once for every device `c` and every
index `j`: a credit signalled, a block sent, a block received, a block loaded, a sent block waited for.

The state between steps holds, for each index, what that index has before its step (`todo`) or after it (`done`).
-/
module

public import proofs.«01_k».proof.Proof.Cells

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-- The weakest precondition of a program run by device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every step knows -/

/-- Every cell's invariant and that its round 0 is reached; the levels. -/
def ctx : sProp 𝕄 :=
  iprop((bigSep Finset.univ fun ck : Dev nD × KA => cellInv ER (sched m ρ) (K ck) (kcell ck))
    ∗ (bigSep Finset.univ fun ck : Dev nD × KA => reached ER (kcell ck) 0) ∗ levAts L lv)

instance ctx_persistent : BI.Persistent (ctx (F := F) m ρ K) := by unfold ctx; infer_instance

theorem ctx_inv (ck : Dev nD × KA) : ctx (F := F) m ρ K ⊢ cellInv ER (sched m ρ) (K ck) (kcell ck) := by
  unfold ctx; iintro ⟨H, -, -⟩
  iapply (show (bigSep Finset.univ fun ck : Dev nD × KA => (cellInv ER (sched m ρ) (K ck) (kcell ck) : sProp 𝕄)) ⊢ _ from bigSep_elim (Finset.mem_univ ck))
  iexact H
theorem ctx_reached (ck : Dev nD × KA) : ctx (F := F) m ρ K ⊢ reached ER (kcell ck) 0 := by
  unfold ctx; iintro ⟨-, H, -⟩
  iapply (show (bigSep Finset.univ fun ck : Dev nD × KA => (reached ER (kcell ck) 0 : sProp 𝕄)) ⊢ _ from bigSep_elim (Finset.mem_univ ck))
  iexact H
theorem ctx_lev : ctx (F := F) m ρ K ⊢ levAts L lv := by
  unfold ctx; iintro ⟨-, -, H⟩; iexact H

set_option maxRecDepth 20000 in
/-- A wait for a credit may be made while only transfers are owed. -/
theorem mayWait_cred (c j : Dev nD) (n : ℕ) : ctx (F := F) m ρ K ⊢ MayWait (c : Thread nD τ) (.reg (credS j)) () (owedB c n) := by
  have h0 : lv (credCell c j) () ≤ 2 := le_of_eq (lv_cred c j)
  have h := mayWait (F := F) c (.reg (credS j)) 2 h0 (owedB c n) (above_owedB c n)
  iintro H
  ihave H := (ctx_lev (F := F) m ρ K) $$ H
  iapply h; iexact H

set_option maxRecDepth 20000 in
/-- A wait for the barrier may be made while only transfers and credits are owed. -/
theorem mayWait_bar (c : Dev nD) : ctx (F := F) m ρ K ⊢ MayWait (c : Thread nD τ) (.reg barS) () (owedB c 0 + owedA c 0) := by
  have h0 : lv (barCell c) () ≤ 1 := le_of_eq (lv_bar c)
  have h := mayWait (F := F) c (.reg barS) 1 h0 (owedB c 0 + owedA c 0) (((above_owedB c 0).mono (by omega)).add (above_owedA c 0))
  iintro H
  ihave H := (ctx_lev (F := F) m ρ K) $$ H
  iapply h; iexact H

/-- Device `c` owes `O`. -/
def ow (c : Dev nD) (O : CellTallies nD τ sig Unit) : sProp 𝕄 := iprop(∃ W, owes (c : Thread nD τ) O W)

/-! ## A family of resources, one index after another -/

/-- Indices below `n` hold what they have after their step, the others what they have before it. -/
def fam (n : ℕ) (todo done : Dev nD → sProp 𝕄) : sProp 𝕄 :=
  bigSep Finset.univ fun j : Dev nD => if j.val < n then done j else todo j

/-- The next index's step: its resources taken, and put back changed. -/
theorem fam_step (j : Dev nD) (todo done : Dev nD → sProp 𝕄) :
    fam j.val todo done ⊢ iprop(todo j ∗ (done j -∗ fam (j.val + 1) todo done)) := by
  unfold fam
  rw [bigSep_univ_at _ j, bigSep_univ_at (fun i : Dev nD => if i.val < j.val + 1 then done i else todo i) j,
    if_neg (Nat.lt_irrefl _), if_pos (Nat.lt_succ_self _),
    bigSep_congr (s := Finset.univ.erase j) (Ψ := fun i : Dev nD => if i.val < j.val + 1 then done i else todo i) fun i hi => by
      have hne : i.val ≠ j.val := fun h => (Finset.mem_erase.mp hi).1 (Fin.ext h)
      by_cases h : i.val < j.val
      · rw [if_pos h, if_pos (by omega)]
      · rw [if_neg h, if_neg (by omega)]]
  iintro ⟨H1, H2⟩
  isplitl [H1]; · iexact H1
  iintro H3
  isplitl [H3] <;> iassumption

/-- An index whose step is past: its resources taken, and put back. -/
theorem fam_at (n : ℕ) (j : Dev nD) (h : j.val < n) (todo done : Dev nD → sProp 𝕄) :
    fam n todo done ⊢ iprop(done j ∗ (done j -∗ fam n todo done)) := by
  unfold fam
  rw [bigSep_univ_at _ j, if_pos h]
  iintro ⟨H1, H2⟩
  isplitl [H1]; · iexact H1
  iintro H3
  isplitl [H3] <;> iassumption

theorem fam_zero (todo done : Dev nD → sProp 𝕄) : fam 0 todo done = bigSep Finset.univ todo :=
  bigSep_congr fun j _ => if_neg (Nat.not_lt_zero _)
theorem fam_end (todo done : Dev nD → sProp 𝕄) : fam 16 todo done = bigSep Finset.univ done :=
  bigSep_congr fun j _ => if_pos j.isLt

/-! ## The credits -/

def todoA (c j : Dev nD) : sProp 𝕄 := iprop(dutyTok ER (credCell j c) 0 () ∗ rAny c j)
def doneA (c j : Dev nD) : sProp 𝕄 := if j = c then todoA c j else iprop(emp)
def StA (c : Dev nD) (n : ℕ) (R : sProp 𝕄) : sProp 𝕄 :=
  iprop(ctx m ρ K ∗ ow c (owedB c 0 + owedA c n) ∗ fam n (todoA c) (doneA c) ∗ R)

/-- Device `c` signals device `j` that slot `j` of its receive buffer may be written, and hands the slot over. -/
theorem wp_credit (c j : Dev nD) (n n' : ℕ) (hn : j.val = n) (hn' : n + 1 = n') {R : sProp 𝕄}
    (cond : BitVec 1) (hc : cond = 1#1 ↔ j ≠ c) (off : Fin 1 → ℕ) (hoff : off = ![c.val])
    (inb : cond = 1#1 → ∀ a, off a + S1.size a ≤ S16.size a) (dv : ℕ) (hdv : dv = j.val) (lt : cond = 1#1 → dv < nD)
    {α : Type} {k : Prog (TpuEff nD τ sig (Elt F) Λ₀ .tc) α} {Q : α → sProp 𝕄}
    (H : StA m ρ K c n' R ⊢ WP c k Q) :
    StA m ρ K c n R ⊢ WP c (if h : cond = 1#1 then
        (semSignalWord (⟨dv, lt h⟩ : Dev nD)
          ((SemArray.slice cc0_scratch5 (Rect.unit (s := S16) off S1.size (inb h))).squeeze S_ squeezes_S1_S_).sem 1#32
            >>= fun _ => k)
      else k) Q := by
  subst hoff; subst hn; subst hn'; subst hdv
  by_cases h : j = c
  · rw [dif_neg (fun e => hc.mp e h)]
    refine BIBase.Entails.trans ?_ H
    subst h
    unfold StA
    rw [owedA_own]
    iintro ⟨Hc, Ho, Hf, HR⟩
    isplitl [Hc]; · iexact Hc
    isplitl [Ho]; · iexact Ho
    isplitr [HR]
    · ihave Hf := (fam_step j (todoA j) (doneA j)) $$ Hf
      icases Hf with ⟨H1, H2⟩
      iapply H2
      unfold doneA; rw [if_pos rfl]; iexact H1
    · iexact HR
  · rw [dif_pos (hc.mpr h)]
    simp only [semSignalWord, Prog.bind_op, Prog.bind_ret]
    unfold StA ow
    rw [owedA_succ c j h]
    iintro ⟨#Hctx, ⟨%W, HO⟩, Hf, HR⟩
    ihave Hf := (fam_step j (todoA c) (doneA c)) $$ Hf
    icases Hf with ⟨Hj, Hback⟩
    unfold todoA
    icases Hj with ⟨Htok, Hslot⟩
    iapply (Rounds.wp_signal 𝒱₀ ER (sched m ρ) (c : Thread nD τ) none (dst := (j : Thread nD τ)) (κ := K (j, kCred c))
        (d := ()) (duty_mem m ρ (j, kCred c) (kduties_ix 2 (Ne.symm h))) ((amount_at m ρ (j, kCred c) ()).trans (by show 1 = _; decide)) ()
        (owedB c 0 + owedA c (j.val + 1)) (add_assoc _ _ _).symm)
      $$ [HO Htok Hslot]
    · isplitr; · iapply (ctx_inv m ρ K (j, kCred c)); iexact Hctx
      isplitl [HO]; · iexact HO
      isplitl [Htok]; · iexact Htok
      isplitl [Hslot]; · iapply (Entails.of_eq (show rAny c j = _ from (payload_at m ρ (j, kCred c) ()).symm)); iexact Hslot
      iapply (ctx_reached m ρ K (j, kCred c)); iexact Hctx
    iintro HO
    iapply H
    unfold StA ow
    isplitr; · iexact Hctx
    isplitl [HO]; · iexists W; iexact HO
    isplitr [HR]
    · iapply Hback
      unfold doneA; rw [if_neg h]; iempintro
    · iexact HR

/-! ## The sends -/

/-- What is read through a slot, read through the slot as a transfer names it; they determine each other. -/
theorem shapeCast_inj {α : Type} {s t : Shape} (h : s.ShapeCasts t) {x y : s.Idx → α} (e : shapeCast t x h = shapeCast t y h) : x = y := by
  funext i
  have := congrFun e ((Shape.reshapeEquiv h).symm i)
  unfold shapeCast at this
  rwa [Equiv.apply_symm_apply] at this

/-- A block transferred from a slot of a send buffer into a slot of a receive buffer is read there as it was. -/
theorem landed_read (c j : Dev nD) (fd : (cc0_scratch0 : Ref sig .tc).ty.Contents (Elt F)) (fs : (cc0_scratch1 : Ref sig .tc).ty.Contents (Elt F)) :
    (rM.access (slotR c)).read (Elt F) ((rD c).view.write (Elt F) fd ((sD j).view.read (Elt F) fs) Finset.univ)
      = (sM.access (slotR j)).read (Elt F) fs := by
  have h : (rD c).view.read (Elt F) ((rD c).view.write (Elt F) fd ((sD j).view.read (Elt F) fs) Finset.univ) = (sD j).view.read (Elt F) fs :=
    View.read_write_univ _ _
  exact shapeCast_inj (s := S1x64x64) (t := S64x64) (by decide) h

theorem rSlot_eq (c j : Dev nD) (f : Buf (Elt F) ((c : Thread nD τ).loc cc0_scratch0)) :
    (((c : Thread nD τ).loc cc0_scratch0) ↦[rSet j]{fullShare} f : sProp 𝕄)
      = ((rD j).view.loc (c : Thread nD τ) ↦[(rD j).view.set]{fullShare} f : sProp 𝕄) := by rw [View.set_reshape]
theorem sSlot_eq (c j : Dev nD) (f : Buf (Elt F) ((c : Thread nD τ).loc cc0_scratch1)) :
    (((c : Thread nD τ).loc cc0_scratch1) ↦[sSet j]{fullShare} f : sProp 𝕄)
      = ((sD j).view.loc (c : Thread nD τ) ↦[(sD j).view.set]{fullShare} f : sProp 𝕄) := by rw [View.set_reshape]
theorem rPts_eq (c j : Dev nD) (f : Buf (Elt F) ((c : Thread nD τ).loc cc0_scratch0)) :
    rPts c j f = ((rD j).view.loc (c : Thread nD τ) ↦[(rD j).view.set]{fullShare} f : sProp 𝕄) := by
  unfold rPts; rw [View.set_reshape]
theorem sPts_eq (c j : Dev nD) (f : Buf (Elt F) ((c : Thread nD τ).loc cc0_scratch1)) :
    sPts c j f = ((sD j).view.loc (c : Thread nD τ) ↦[(sD j).view.set]{fullShare} f : sProp 𝕄) := by
  unfold sPts; rw [View.set_reshape]

/-- What a transfer's two ends hand over. -/
theorem pay_send (c j : Dev nD) (f : Buf (Elt F) ((c : Thread nD τ).loc cc0_scratch1)) :
    ((sD j).view.loc (c : Thread nD τ) ↦[(sD j).view.set]{fullShare} f : sProp 𝕄) ⊢ (sched m ρ).payload (sendCell c j) 0 () := by
  rw [← sPts_eq]
  refine BIBase.Entails.trans ?_ (Entails.of_eq (payload_at m ρ (c, kSend j) ()).symm)
  show _ ⊢ sAny c j
  unfold sAny; iintro H; iexists f; iexact H
theorem pay_recv (c j : Dev nD) (fs : Buf (Elt F) ((c : Thread nD τ).loc cc0_scratch1)) (fd : Buf (Elt F) ((j : Thread nD τ).loc cc0_scratch0))
    (h : (sM.access (slotR j)).read (Elt F) fs = sent m ρ j c) :
    ((rD c).view.loc (j : Thread nD τ) ↦[(rD c).view.set]{fullShare} ((rD c).view.write (Elt F) fd ((sD j).view.read (Elt F) fs) Finset.univ) : sProp 𝕄)
      ⊢ (sched m ρ).payload (recvCell j c) 0 () := by
  rw [← rPts_eq]
  refine BIBase.Entails.trans ?_ (Entails.of_eq (payload_at m ρ (j, kRecv c) ()).symm)
  show _ ⊢ rHolds m ρ j c
  unfold rHolds
  iintro H; iexists _
  isplitr
  · ipureintro; exact (landed_read c j fd fs).trans h
  · iexact H

def todoB (c j : Dev nD) : sProp 𝕄 :=
  iprop(atPos ER (credCell c j) 0 ∅ 0 ∗ sAny c j ∗ (if j = c then iprop(emp) else cred (tallyAt (credCell c j) () 1))
    ∗ dutyTok ER (sendCell c j) 0 () ∗ dutyTok ER (recvCell j c) 0 ())
def doneB (c j : Dev nD) : sProp 𝕄 :=
  if j = c then iprop(atPos ER (credCell c j) 0 ∅ 0 ∗ sAny c j)
  else iprop(atPos ER (credCell c j) 1 ∅ 0 ∗ cred (tallyAt (sendCell c j) () N))
def StB (c : Dev nD) (n : ℕ) (R : sProp 𝕄) : sProp 𝕄 :=
  iprop(ctx m ρ K ∗ ow c (owedB c n) ∗ xPts m ρ c ∗ fam n (todoB c) (doneB c) ∗ R)

/-- Device `c` rounds block `j` of its columns of `x` into slot `j` of its send buffer, waits for `j`'s credit, and
    starts the transfer into slot `c` of `j`'s receive buffer. -/
theorem wp_send (c j : Dev nD) (n n' : ℕ) (hn : j.val = n) (hn' : n + 1 = n') {R : sProp 𝕄}
    (cond : BitVec 1) (hc : cond = 1#1 ↔ j ≠ c)
    (pay : (S64x64.Idx → Elt F .f32) → S1x64x64.Idx → Elt F .bf16) (hpay : pay = k0_pay1)
    (off : Fin 1 → ℕ) (hoff : off = ![c.val]) (inb : cond = 1#1 → ∀ a, off a + S1.size a ≤ S16.size a)
    (off' : Fin 3 → ℕ) (hoff' : off' = ![c.val, 0, 0]) (inb' : cond = 1#1 → ∀ a, off' a + S1x64x64.size a ≤ S16x64x64.size a)
    (dv : ℕ) (hdv : dv = j.val) (lt : cond = 1#1 → dv < nD)
    {hl hl' hst hst'} {hsrc : (sD j).view.WordExact}
    {hdst : (h : cond = 1#1) → ((rM.slice (Rect.unit (s := S16x64x64) off' S1x64x64.size (inb' h)) (fun _ => rfl)).squeeze S64x64 squeezes_S1x64x64_S64x64).view.WordExact}
    {α : Type} {k : Prog (TpuEff nD τ sig (Elt F) Λ₀ .tc) α} {Q : α → sProp 𝕄}
    (H : StB m ρ K c n' R ⊢ WP c k Q) :
    StB m ρ K c n R ⊢ WP c (if h : cond = 1#1 then
        (Prog.lift (.load xM (xrowR j).toLoadRect hl) >>= fun v =>
         Prog.lift (.load sM (slotR j).toLoadRect hl') >>= fun _ =>
         Prog.lift (.store sM (slotR j) (pay v) Finset.univ hst hst') >>= fun _ =>
         semWaitWord (credS j) 1#32 >>= fun _ =>
         Prog.lift (.enqueueDma (sD j) (.remote (Dev.tc (⟨dv, lt h⟩ : Dev nD) : Thread nD τ)
            ((rM.slice (Rect.unit (s := S16x64x64) off' S1x64x64.size (inb' h)) (fun _ => rfl)).squeeze S64x64 squeezes_S1x64x64_S64x64)
            (.dma (sendS j)))
            (.dma ((SemArray.slice cc0_scratch4 (Rect.unit (s := S16) off S1.size (inb h))).squeeze S_ squeezes_S1_S_).sem)
            hsrc (hdst h) ⟨⟨rfl, Or.inl rfl⟩, trivial⟩) >>= fun _ => k)
      else k) Q := by
  subst hoff; subst hoff'; subst hn; subst hn'; subst hdv; subst hpay
  by_cases h : j = c
  · rw [dif_neg (fun e => hc.mp e h)]
    refine BIBase.Entails.trans ?_ H
    subst h
    unfold StB
    rw [owedB_own]
    iintro ⟨Hc, Ho, Hx, Hf, HR⟩
    isplitl [Hc]; · iexact Hc
    isplitl [Ho]; · iexact Ho
    isplitl [Hx]; · iexact Hx
    isplitr [HR]
    · ihave Hf := (fam_step j (todoB j) (doneB j)) $$ Hf
      icases Hf with ⟨H1, H2⟩
      iapply H2
      rw [show doneB (F := F) j j = iprop(atPos ER (credCell j j) 0 ∅ 0 ∗ sAny j j) from if_pos rfl]
      unfold todoB
      icases H1 with ⟨H1, H3, -⟩
      isplitl [H1] <;> iassumption
    · iexact HR
  · rw [dif_pos (hc.mpr h)]
    simp only [semWaitWord, Prog.lift, Prog.bind_op, Prog.bind_ret]
    unfold StB ow
    iintro ⟨#Hctx, ⟨%W, HO⟩, Hx, Hf, HR⟩
    ihave Hf := (fam_step j (todoB c) (doneB c)) $$ Hf
    icases Hf with ⟨Hj, Hback⟩
    unfold todoB
    rw [if_neg h]
    icases Hj with ⟨Hat, Hs, Hcr, HtS, HtR⟩
    unfold sAny
    icases Hs with ⟨%f0, Hs⟩
    unfold xPts
    iapply (wp_load 𝒱₀ (c : Thread nD τ) none Set.univ (m := xM) (Finset.subset_univ _)) $$ Hx; iintro Hx
    unfold sPts
    iapply (wp_load_rect 𝒱₀ (c : Thread nD τ) none Set.univ (m := sM) (r := slotR j) (Finset.Subset.refl _)) $$ Hs; iintro Hs
    iapply (wp_store 𝒱₀ (c : Thread nD τ) none Set.univ (m := sM) (r := slotR j) (Mk := Finset.univ) (S := sSet j) (Finset.Subset.refl _)) $$ Hs; iintro Hs
    -- the credit
    iapply (Rounds.wp_wait_rest_token 𝒱₀ ER (sched m ρ) (c : Thread nD τ) none (κ := K (c, kCred j))
        (wpE_semWait_eq 𝒱₀ (c : Thread nD τ) none Set.univ) (Set.mem_univ _) () (O := owedB c j.val) (W := W) (R := 0) (m := 0) (T := ∅)
        (by rw [Nat.zero_add, show (sched m ρ).expect (credCell c j) 0 = 1 from expect_at m ρ (c, kCred j) (kduties_ix 2 h)]; decide)) $$ [Hcr HO Hat]
    · isplitr; · iapply (ctx_inv m ρ K (c, kCred j)); iexact Hctx
      isplitl [Hcr]; · iexact Hcr
      isplitl [HO]; · iexact HO
      isplitr
      · iapply (mayWait_cred m ρ K c j j.val); iexact Hctx
      iexact Hat
    iintro ⟨HO, Hat, -, Hpay⟩
    ihave Hpay := (Entails.of_eq (rest_at m ρ (c, kCred j) (kduties_ix 2 h))) $$ Hpay
    ihave Hpay := (show kpay m ρ (c, kCred j) ⊢ iprop(∃ f, rPts j c f) from Entails.refl _) $$ Hpay
    icases Hpay with ⟨%fd, Hr⟩
    -- the transfer
    ihave Hs := (Entails.of_eq (sSlot_eq c j _)) $$ Hs
    ihave Hr := (Entails.of_eq (rPts_eq j c _)) $$ Hr
    iapply (Rounds.wp_send_pointsTo 𝒱₀ ER (sched m ρ) (c : Thread nD τ) none (κ₁ := K (c, kSend j)) (κ₂ := K (j, kRecv c))
        (c' := (j : Thread nD τ)) (src := sD j) (dst := rD c) (sS := .dma (sendS j)) (sem := .dma (recvS c))
        (r₁ := 0) (r₂ := 0) (d₁ := ()) (d₂ := ()) (fd := fd)
        (duty_mem m ρ (c, kSend j) (kduties_ix 0 h)) (duty_mem m ρ (j, kRecv c) (kduties_ix 1 (Ne.symm h)))
        () () N (rD_credit c) (amount_at m ρ (c, kSend j) ()) (amount_at m ρ (j, kRecv c) ()) (owedB c (j.val + 1)) (owedB_succ c j h)
        (W := insert (SemLoc.reg (credS j), ()) W)
        (fs := (sM.access (slotR j)).write (Elt F) f0 (k0_pay1 ((xM.access (xrowR j)).read (Elt F) (xstg m ρ c))) Finset.univ)
        (pay_send m ρ c j _) (pay_recv m ρ c j _ fd (View.read_write_univ _ _))) $$ [Hs Hr HO HtS HtR]
    · isplitr; · iapply (ctx_inv m ρ K (c, kSend j)); iexact Hctx
      isplitr; · iapply (ctx_inv m ρ K (j, kRecv c)); iexact Hctx
      isplitl [Hs]; · iexact Hs
      isplitl [Hr]; · iexact Hr
      isplitl [HO]; · iexact HO
      isplitl [HtS]; · iexact HtS
      isplitr; · iapply (ctx_reached m ρ K (c, kSend j)); iexact Hctx
      isplitl [HtR]; · iexact HtR
      iapply (ctx_reached m ρ K (j, kRecv c)); iexact Hctx
    iintro ⟨HcS, HO⟩
    iapply H
    unfold StB ow xPts
    isplitr; · iexact Hctx
    isplitl [HO]; · iexists _; iexact HO
    isplitl [Hx]; · iexact Hx
    isplitr [HR]
    · iapply Hback
      unfold doneB; rw [if_neg h]
      isplitl [Hat] <;> iassumption
    · iexact HR

/-! ## The receives -/

/-- Device `c`'s position on the mesh, as the kernel computes it, and the kernel's test that it is not `j`. -/
abbrev my (c : Dev nD) : BitVec 32 := Scalar.remsi (Scalar.divsi (Dev.word c) 1#32) 16#32
theorem notMe (c j : Dev nD) :
    Iff (Scalar.cmpi .ne (Scalar.extui (Scalar.cmpi .ne (my c) (BitVec.ofNat 32 j.val)) : BitVec 32) 0#32 = 1#1) (j ≠ c) := by
  revert c j; decide +kernel

def todoD (c j : Dev nD) : sProp 𝕄 :=
  if j = c then iprop(atPos ER (recvCell c j) 0 ∅ 0 ∗ rHolds m ρ c j)
  else iprop(atPos ER (recvCell c j) 0 ∅ 0 ∗ cred (tallyAt (recvCell c j) () N))
def doneD (c j : Dev nD) : sProp 𝕄 :=
  iprop(atPos ER (recvCell c j) (if j = c then 0 else 1) ∅ 0 ∗ rHolds m ρ c j)
def StD (c : Dev nD) (n : ℕ) (R : sProp 𝕄) : sProp 𝕄 :=
  iprop(ctx m ρ K ∗ ow c 0 ∗ wPts m c ∗ fam n (todoD m ρ c) (doneD m ρ c) ∗ R)

/-- Device `c` waits for the block device `j` sends it, unless `j` is `c`. -/
theorem wp_recv (c j : Dev nD) (n n' : ℕ) (hn : j.val = n) (hn' : n + 1 = n') {R : sProp 𝕄}
    (cond : BitVec 1) (hc : cond = 1#1 ↔ j ≠ c) {h1 h2}
    {α : Type} {k : Prog (TpuEff nD τ sig (Elt F) Λ₀ .tc) α} {Q : α → sProp 𝕄}
    (H : StD m ρ K c n' R ⊢ WP c k Q) :
    StD m ρ K c n R ⊢ WP c (if h : cond = 1#1 then
        (Prog.lift (.waitDma2 (recvS j) (rD j) (rD j) h1 h2) >>= fun _ => k) else k) Q := by
  subst hn; subst hn'
  by_cases h : j = c
  · rw [dif_neg (fun e => hc.mp e h)]
    refine BIBase.Entails.trans ?_ H
    subst h
    unfold StD
    iintro ⟨Hc, Ho, Hw, Hf, HR⟩
    isplitl [Hc]; · iexact Hc
    isplitl [Ho]; · iexact Ho
    isplitl [Hw]; · iexact Hw
    isplitr [HR]
    · ihave Hf := (fam_step j (todoD m ρ j) (doneD m ρ j)) $$ Hf
      icases Hf with ⟨H1, H2⟩
      iapply H2
      ihave H1 := (Entails.of_eq (show todoD m ρ j j = iprop(atPos ER (recvCell j j) 0 ∅ 0 ∗ rHolds m ρ j j) from if_pos rfl)) $$ H1
      unfold doneD
      rw [if_pos rfl]
      iexact H1
    · iexact HR
  · rw [dif_pos (hc.mpr h)]
    simp only [Prog.lift, Prog.bind_op, Prog.bind_ret]
    unfold StD ow
    iintro ⟨#Hctx, ⟨%W, HO⟩, Hw, Hf, HR⟩
    ihave Hf := (fam_step j (todoD m ρ c) (doneD m ρ c)) $$ Hf
    icases Hf with ⟨Hj, Hback⟩
    ihave Hj := (Entails.of_eq (show todoD m ρ c j = iprop(atPos ER (recvCell c j) 0 ∅ 0 ∗ cred (tallyAt (recvCell c j) () N)) from if_neg h)) $$ Hj
    icases Hj with ⟨Hat, Hcr⟩
    iapply (Rounds.wp_wait_rest_token 𝒱₀ ER (sched m ρ) (c : Thread nD τ) none (κ := K (c, kRecv j))
        (wpE_waitDma2_eq 𝒱₀ (c : Thread nD τ) none Set.univ) (Set.mem_univ _) () (O := 0) (W := W) (R := 0) (m := 0) (T := ∅)
        (by rw [Nat.zero_add, rD_credit]; exact (expect_at m ρ (c, kRecv j) (kduties_ix 1 h)).symm)) $$ [Hcr HO Hat]
    · isplitr; · iapply (ctx_inv m ρ K (c, kRecv j)); iexact Hctx
      isplitl [Hcr]; · rw [rD_credit]; iexact Hcr
      isplitl [HO]; · iexact HO
      isplitr; · rw [MayWait_zero]; iempintro
      iexact Hat
    iintro ⟨HO, Hat, -, Hpay⟩
    ihave Hpay := (Entails.of_eq (rest_at m ρ (c, kRecv j) (kduties_ix 1 h))) $$ Hpay
    iapply H
    unfold StD ow
    isplitr; · iexact Hctx
    isplitl [HO]; · iexists _; iexact HO
    isplitl [Hw]; · iexact Hw
    isplitr [HR]
    · iapply Hback
      unfold doneD; rw [if_neg h]
      isplitl [Hat]; · iexact Hat
      iapply (Entails.of_eq (show kpay m ρ (c, kRecv j) = rHolds m ρ c j from rfl)); iexact Hpay
    · iexact HR

/-- The block in slot `j`, once it is there, is what device `j` sends `c`. -/
theorem wp_load_recv (c j : Dev nD) (n : ℕ) (hn : j.val < n) {R : sProp 𝕄} {hl}
    {α : Type} {k : (S1x64x64.Idx → Elt F .bf16) → Prog (TpuEff nD τ sig (Elt F) Λ₀ .tc) α} {Q : α → sProp 𝕄}
    (H : StD m ρ K c n R ⊢ WP c (k (sent m ρ c j)) Q) :
    StD m ρ K c n R ⊢ WP c (Prog.lift (.load rM (slotR j).toLoadRect hl) >>= k) Q := by
  simp only [Prog.lift, Prog.bind_op, Prog.bind_ret]
  unfold StD
  iintro ⟨Hc, Ho, Hw, Hf, HR⟩
  ihave Hf := (fam_at n j hn (todoD m ρ c) (doneD m ρ c)) $$ Hf
  icases Hf with ⟨Hj, Hback⟩
  unfold doneD rHolds rPts
  icases Hj with ⟨Hat, %f, %hf, Hr⟩
  iapply (wp_load_rect 𝒱₀ (c : Thread nD τ) none Set.univ (m := rM) (r := slotR j) (S := rSet j) (Finset.Subset.refl _)) $$ Hr; iintro Hr
  rw [hf]
  iapply H
  unfold StD
  isplitl [Hc]; · iexact Hc
  isplitl [Ho]; · iexact Ho
  isplitl [Hw]; · iexact Hw
  isplitr [HR]
  · iapply Hback
    isplitl [Hat]; · iexact Hat
    iexists f
    isplitr; · ipureintro; exact hf
    iexact Hr
  · iexact HR

/-- Rows `64 j` to `64 j + 63` of device `c`'s copy of `w`. -/
def wrow (c j : Dev nD) : S64x1024.Idx → Elt F .f32 := (wM.access (wrowR j)).read (Elt F) (wAt m c)

theorem wp_load_w (c j : Dev nD) (n : ℕ) {R : sProp 𝕄} {hl}
    {α : Type} {k : (S64x1024.Idx → Elt F .f32) → Prog (TpuEff nD τ sig (Elt F) Λ₀ .tc) α} {Q : α → sProp 𝕄}
    (H : StD m ρ K c n R ⊢ WP c (k (wrow m c j)) Q) :
    StD m ρ K c n R ⊢ WP c (Prog.lift (.load wM (wrowR j).toLoadRect hl) >>= k) Q := by
  simp only [Prog.lift, Prog.bind_op, Prog.bind_ret]
  unfold StD
  iintro ⟨Hc, Ho, Hw, Hf, HR⟩
  unfold wPts
  iapply (wp_load 𝒱₀ (c : Thread nD τ) none Set.univ (m := wM) (Finset.subset_univ _)) $$ Hw; iintro Hw
  iapply H
  unfold StD wPts
  isplitl [Hc]; · iexact Hc
  isplitl [Ho]; · iexact Ho
  isplitl [Hw]; · iexact Hw
  isplitl [Hf] <;> iassumption

/-! ## The sent blocks -/

def todoE (c j : Dev nD) : sProp 𝕄 :=
  if j = c then iprop(atPos ER (sendCell c j) 0 ∅ 0 ∗ sAny c j)
  else iprop(atPos ER (sendCell c j) 0 ∅ 0 ∗ cred (tallyAt (sendCell c j) () N))
def doneE (c j : Dev nD) : sProp 𝕄 := iprop(atPos ER (sendCell c j) (if j = c then 0 else 1) ∅ 0 ∗ sAny c j)
def StE (c : Dev nD) (n : ℕ) (R : sProp 𝕄) : sProp 𝕄 :=
  iprop(ctx m ρ K ∗ ow c 0 ∗ fam n (todoE c) (doneE c) ∗ R)

/-- Device `c` waits until its block for device `j` has left its send buffer, unless `j` is `c`. -/
theorem wp_sent (c j : Dev nD) (n n' : ℕ) (hn : j.val = n) (hn' : n + 1 = n') {R : sProp 𝕄}
    (cond : BitVec 1) (hc : cond = 1#1 ↔ j ≠ c) {h1 h2}
    {α : Type} {k : Prog (TpuEff nD τ sig (Elt F) Λ₀ .tc) α} {Q : α → sProp 𝕄}
    (H : StE m ρ K c n' R ⊢ WP c k Q) :
    StE m ρ K c n R ⊢ WP c (if h : cond = 1#1 then
        (Prog.lift (.waitDma2 (sendS j) (rD j) (sD j) h1 h2) >>= fun _ => k) else k) Q := by
  subst hn; subst hn'
  by_cases h : j = c
  · rw [dif_neg (fun e => hc.mp e h)]
    refine BIBase.Entails.trans ?_ H
    subst h
    unfold StE
    iintro ⟨Hc, Ho, Hf, HR⟩
    isplitl [Hc]; · iexact Hc
    isplitl [Ho]; · iexact Ho
    isplitr [HR]
    · ihave Hf := (fam_step j (todoE j) (doneE j)) $$ Hf
      icases Hf with ⟨H1, H2⟩
      iapply H2
      ihave H1 := (Entails.of_eq (show todoE (F := F) j j = iprop(atPos ER (sendCell j j) 0 ∅ 0 ∗ sAny j j) from if_pos rfl)) $$ H1
      unfold doneE
      rw [if_pos rfl]
      iexact H1
    · iexact HR
  · rw [dif_pos (hc.mpr h)]
    simp only [Prog.lift, Prog.bind_op, Prog.bind_ret]
    unfold StE ow
    iintro ⟨#Hctx, ⟨%W, HO⟩, Hf, HR⟩
    ihave Hf := (fam_step j (todoE c) (doneE c)) $$ Hf
    icases Hf with ⟨Hj, Hback⟩
    ihave Hj := (Entails.of_eq (show todoE (F := F) c j = iprop(atPos ER (sendCell c j) 0 ∅ 0 ∗ cred (tallyAt (sendCell c j) () N)) from if_neg h)) $$ Hj
    icases Hj with ⟨Hat, Hcr⟩
    iapply (Rounds.wp_wait_rest_token 𝒱₀ ER (sched m ρ) (c : Thread nD τ) none (κ := K (c, kSend j))
        (wpE_waitDma2_eq 𝒱₀ (c : Thread nD τ) none Set.univ) (Set.mem_univ _) () (O := 0) (W := W) (R := 0) (m := 0) (T := ∅)
        (by rw [Nat.zero_add, sD_credit]; exact (expect_at m ρ (c, kSend j) (kduties_ix 0 h)).symm)) $$ [Hcr HO Hat]
    · isplitr; · iapply (ctx_inv m ρ K (c, kSend j)); iexact Hctx
      isplitl [Hcr]; · rw [sD_credit]; iexact Hcr
      isplitl [HO]; · iexact HO
      isplitr; · rw [MayWait_zero]; iempintro
      iexact Hat
    iintro ⟨HO, Hat, -, Hpay⟩
    ihave Hpay := (Entails.of_eq (rest_at m ρ (c, kSend j) (kduties_ix 0 h))) $$ Hpay
    iapply H
    unfold StE ow
    isplitr; · iexact Hctx
    isplitl [HO]; · iexists _; iexact HO
    isplitr [HR]
    · iapply Hback
      unfold doneE; rw [if_neg h]
      isplitl [Hat]; · iexact Hat
      iapply (Entails.of_eq (show kpay m ρ (c, kSend j) = sAny c j from rfl)); iexact Hpay
    · iexact HR

end Cert.A2A

end
-- ==== Proof.Once.lean ====
/-
The all-to-all matrix product, `Once`: the steps the kernel makes once: the copy of `w` issued with the barrier
signalled and waited for, the device's own block stored, the result stored.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The steps made once -/

/-- The start: the copy of `w` is issued; the barrier is signalled and waited for. -/
theorem wp_entry (c : Dev nD) {R : sProp 𝕄} {h1 h2 h3}
    {α : Type} {k : Dev nD → Prog (TpuEff nD τ sig (Elt F) Λ₀ .tc) α} {Q : α → sProp 𝕄}
    (H : StA m ρ K c 0 iprop(cred (tallyAt (wCell c) () NW) ∗ atPos ER (wCell c) 0 ∅ 0 ∗ atPos ER (barCell c) 1 ∅ 0 ∗ R) ⊢ WP c (k c) Q) :
    iprop(ctx m ρ K ∗ ow c (O₀ c) ∗ fam 0 (todoA c) (doneA c)
        ∗ (aPts m c ∗ (∃ f : Buf (Elt F) ((c : Thread nD τ).loc cc0_scratch2), ((c : Thread nD τ).loc cc0_scratch2) ↦{fullShare} f)
            ∗ dutyTok ER (wCell c) 0 () ∗ atPos ER (wCell c) 0 ∅ 0)
        ∗ (cred (tallyAt (barCell c) () 1) ∗ dutyTok ER (barCell c) 0 () ∗ atPos ER (barCell c) 0 ∅ 0) ∗ R)
      ⊢ WP c (Prog.lift .deviceId >>= fun d =>
          Prog.lift (.enqueueDma aM (.here wM) (.dma wS) h1 h2 h3) >>= fun _ =>
          semSignalHereWord barS 1#32 >>= fun _ => semWaitWord barS 1#32 >>= fun _ => k d) Q := by
  simp only [semSignalHereWord, semWaitWord, Prog.lift, Prog.bind_op, Prog.bind_ret, wp_deviceId]
  iintro ⟨#Hctx, Ho, Hf, ⟨Ha, ⟨%f, Hw⟩, HtW, HatW⟩, ⟨HcB, HtB, HatB⟩, HR⟩
  unfold ow O₀
  icases Ho with ⟨%W, HO⟩
  unfold aPts
  iapply (Rounds.wp_copy_pointsTo 𝒱₀ ER (sched m ρ) (c : Thread nD τ) none (κ := K (c, kW)) (r := 0) (d := ())
      (src := aM) (dst := wM) (sem := .dma wS) (q := fullShare) (fs := wAt m c) (fd := f)
      (duty_mem m ρ (c, kW) rfl) () NW wM_credit (amount_at m ρ (c, kW) ())
      (by
        refine BIBase.Entails.trans ?_ (Entails.of_eq (payload_at m ρ (c, kW) ()).symm)
        show _ ⊢ iprop(wPts m c ∗ aPts m c)
        unfold wPts aPts
        simp only [View.set_whole]
        refine Entails.of_eq ?_
        congr 2
        exact View.write_whole_univ _ _ _)) $$ [Ha Hw HtW]
  · isplitr; · iapply (ctx_inv m ρ K (c, kW)); iexact Hctx
    isplitl [Ha]; · simp only [View.set_whole]; iexact Ha
    isplitl [Hw]; · simp only [View.set_whole]; iexact Hw
    isplitl [HtW]; · iexact HtW
    iapply (ctx_reached m ρ K (c, kW)); iexact Hctx
  iintro HcW
  simp only [wp_deviceId]
  have hO : owedB c 0 + owedA c 0 + tallyAt (barCell c) () 1
      = owedB c 0 + owedA c 0 + tallyAt ((c : Thread nD τ), .reg barS) () (1#32 : BitVec 32).toNat := congrArg _ (congrArg _ (by decide))
  iapply (Rounds.wp_signal 𝒱₀ ER (sched m ρ) (c : Thread nD τ) none (dst := (c : Thread nD τ)) (κ := K (c, kBar))
      (d := ()) (duty_mem m ρ (c, kBar) rfl) ((amount_at m ρ (c, kBar) ()).trans (by show 1 = _; decide)) ()
      (owedB c 0 + owedA c 0) hO) $$ [HO HtB]
  · isplitr; · iapply (ctx_inv m ρ K (c, kBar)); iexact Hctx
    isplitl [HO]; · iexact HO
    isplitl [HtB]; · iexact HtB
    isplitr; · iapply (Entails.of_eq (show iprop(emp) = _ from (payload_at m ρ (c, kBar) ()).symm)); iempintro
    iapply (ctx_reached m ρ K (c, kBar)); iexact Hctx
  iintro HO
  iapply (Rounds.wp_wait_rest_token 𝒱₀ ER (sched m ρ) (c : Thread nD τ) none (κ := K (c, kBar))
      (wpE_semWait_eq 𝒱₀ (c : Thread nD τ) none Set.univ) (Set.mem_univ _) () (O := owedB c 0 + owedA c 0) (W := W) (R := 0) (m := 0) (T := ∅)
      (by rw [Nat.zero_add, show (sched m ρ).expect (barCell c) 0 = 1 from expect_at m ρ (c, kBar) rfl]; decide)) $$ [HcB HO HatB]
  · isplitr; · iapply (ctx_inv m ρ K (c, kBar)); iexact Hctx
    isplitl [HcB]; · iexact HcB
    isplitl [HO]; · iexact HO
    isplitr; · iapply (mayWait_bar m ρ K c); iexact Hctx
    iexact HatB
  iintro ⟨HO, HatB, -, -⟩
  iapply H
  unfold StA ow
  isplitr; · iexact Hctx
  isplitl [HO]; · iexists _; iexact HO
  isplitl [Hf]; · iexact Hf
  isplitl [HcW]; · iexact HcW
  isplitl [HatW]; · iexact HatW
  isplitl [HatB]; · iexact HatB
  iexact HR

/-- Device `c`'s own block goes into its own slot; then the copy of `w` is waited for. -/
theorem wp_own (c : Dev nD) {R : sProp 𝕄}
    (pay : (S64x64.Idx → Elt F .f32) → S1x64x64.Idx → Elt F .bf16) (hpay : pay = k0_pay1)
    (xoff : Fin 2 → ℕ) (hxoff : xoff = ![64 * c.val, 0]) {xinb : ∀ a, xoff a + S64x64.size a ≤ S1024x64.size a}
    (off : Fin 3 → ℕ) (hoff : off = ![c.val, 0, 0]) {inb : ∀ a, off a + S1x64x64.size a ≤ S16x64x64.size a}
    {hl hl' hst hst' h1 h2}
    {α : Type} {k : Prog (TpuEff nD τ sig (Elt F) Λ₀ .tc) α} {Q : α → sProp 𝕄}
    (H : iprop(ctx m ρ K ∗ ow c 0 ∗ xPts m ρ c ∗ rHolds m ρ c c ∗ (wPts m c ∗ aPts m c ∗ atPos ER (wCell c) 1 ∅ 0) ∗ R) ⊢ WP c k Q) :
    iprop(ctx m ρ K ∗ ow c 0 ∗ xPts m ρ c ∗ rAny c c ∗ (cred (tallyAt (wCell c) () NW) ∗ atPos ER (wCell c) 0 ∅ 0) ∗ R)
      ⊢ WP c (Prog.lift (.load xM (Rect.unit (s := S1024x64) xoff S64x64.size xinb).toLoadRect hl) >>= fun v =>
          Prog.lift (.load rM (Rect.unit (s := S16x64x64) off S1x64x64.size inb).toLoadRect hl') >>= fun _ =>
          Prog.lift (.store rM (Rect.unit (s := S16x64x64) off S1x64x64.size inb) (pay v) Finset.univ hst hst') >>= fun _ =>
          Prog.lift (.waitDma2 wS aM wM h1 h2) >>= fun _ => k) Q := by
  subst hxoff; subst hoff; subst hpay
  simp only [Prog.lift, Prog.bind_op, Prog.bind_ret]
  unfold ow xPts rAny rPts
  iintro ⟨#Hctx, ⟨%W, HO⟩, Hx, ⟨%f, Hr⟩, ⟨Hcr, Hat⟩, HR⟩
  iapply (wp_load 𝒱₀ (c : Thread nD τ) none Set.univ (m := xM) (Finset.subset_univ _)) $$ Hx; iintro Hx
  iapply (wp_load_rect 𝒱₀ (c : Thread nD τ) none Set.univ (m := rM) (r := slotR c) (S := rSet c) (Finset.Subset.refl _)) $$ Hr; iintro Hr
  iapply (wp_store 𝒱₀ (c : Thread nD τ) none Set.univ (m := rM) (r := slotR c) (Mk := Finset.univ) (S := rSet c) (Finset.Subset.refl _)) $$ Hr; iintro Hr
  iapply (Rounds.wp_wait_rest_token 𝒱₀ ER (sched m ρ) (c : Thread nD τ) none (κ := K (c, kW))
      (wpE_waitDma2_eq 𝒱₀ (c : Thread nD τ) none Set.univ) (Set.mem_univ _) () (O := 0) (W := W) (R := 0) (m := 0) (T := ∅)
      (by rw [Nat.zero_add, wM_credit]; exact (expect_at m ρ (c, kW) rfl).symm)) $$ [Hcr HO Hat]
  · isplitr; · iapply (ctx_inv m ρ K (c, kW)); iexact Hctx
    isplitl [Hcr]; · rw [wM_credit]; iexact Hcr
    isplitl [HO]; · iexact HO
    isplitr; · rw [MayWait_zero]; iempintro
    iexact Hat
  iintro ⟨HO, Hat, -, Hpay⟩
  ihave Hpay := (Entails.of_eq (rest_at m ρ (c, kW) rfl)) $$ Hpay
  ihave Hpay := (show kpay m ρ (c, kW) ⊢ iprop(wPts m c ∗ aPts m c) from Entails.of_eq rfl) $$ Hpay
  icases Hpay with ⟨Hw, Ha⟩
  iapply H
  unfold ow xPts rHolds rPts
  isplitr; · iexact Hctx
  isplitl [HO]; · iexists _; iexact HO
  isplitl [Hx]; · iexact Hx
  isplitl [Hr]
  · iexists _
    isplitr
    · ipureintro; exact View.read_write_univ (v := (rM.access (slotR c))) f _
    · iexact Hr
  isplitr [HR]
  · isplitl [Hw]; · iexact Hw
    isplitl [Ha] <;> iassumption
  · iexact HR

/-- The result's staging buffer at contents `f`. -/
def oPts (c : Dev nD) (f : Buf (Elt F) ((c : Thread nD τ).loc cc0_stg1_0)) : sProp 𝕄 :=
  ((c : Thread nD τ).loc cc0_stg1_0) ↦{fullShare} f

theorem hz2 : (![0, 0] : Fin 2 → ℕ) = fun _ => 0 := funext fun a => by fin_cases a <;> rfl

/-- The result is stored. -/
theorem wp_out (c : Dev nD) (P : sProp 𝕄) (v : S64x1024.Idx → Elt F .f32)
    (inb : ∀ a, (![0, 0] : Fin 2 → ℕ) a + S64x1024.size a ≤ S64x1024.size a) {hl hst hst'}
    {α : Type} {k : Prog (TpuEff nD τ sig (Elt F) Λ₀ .tc) α} {Q : α → sProp 𝕄}
    (H : iprop(oPts c v ∗ P) ⊢ WP c k Q) :
    iprop((∃ f, oPts c f) ∗ P) ⊢ WP c (Prog.lift (.load oM (Rect.unit (s := S64x1024) ![0, 0] S64x1024.size inb).toLoadRect hl) >>= fun _ =>
        Prog.lift (.store oM (Rect.unit (s := S64x1024) ![0, 0] S64x1024.size inb) v Finset.univ hst hst') >>= fun _ => k) Q := by
  simp only [Prog.lift, Prog.bind_op, Prog.bind_ret]
  unfold oPts
  iintro ⟨⟨%f, Ho⟩, HP⟩
  iapply (wp_load 𝒱₀ (c : Thread nD τ) none Set.univ (m := oM) (Finset.subset_univ _)) $$ Ho; iintro Ho
  iapply (wp_store 𝒱₀ (c : Thread nD τ) none Set.univ (m := oM) (r := Rect.unit (s := S64x1024) ![0, 0] S64x1024.size inb) (Mk := Finset.univ) (Finset.subset_univ _)) $$ Ho; iintro Ho
  rw [show ((oM : Memref sig .tc .vmem S64x1024 .f32).access (Rect.unit (s := S64x1024) ![0, 0] S64x1024.size inb) : View sig .tc _ _ _).write (Elt F) f v Finset.univ = v
    from Memref.write_access_unit_zero_univ (Elt F) cc0_stg1_0 hz2 _ f v]
  iapply H
  unfold oPts
  isplitl [Ho] <;> iassumption

end Cert.A2A

end
-- ==== Proof.Parts.lean ====
/-
The all-to-all matrix product, `Parts`: the parts the kernel's text is printed in, each a run of the steps of `Steps` and
`Once`.
-/
module

public import proofs.«01_k».proof.Proof.Once

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## Between the stages -/

/-- A part that ends. -/
theorem wp_end (c : Dev nD) {α : Type} {P : sProp 𝕄} (a : α) {Q : α → sProp 𝕄} (H : P ⊢ Q a) :
    P ⊢ WP c (pure a) Q :=
  H.trans (show Q a ⊢ iprop(|={Set.univ}[frame]=> Q a) from fupd_intro)

/-- One part after another. -/
theorem wp_seq (c : Dev nD) {α β : Type} {P : sProp 𝕄} {p : Prog (TpuEff nD τ sig (Elt F) Λ₀ .tc) α}
    {k : α → Prog (TpuEff nD τ sig (Elt F) Λ₀ .tc) β} {Q : β → sProp 𝕄} (H : P ⊢ WP c p fun a => WP c (k a) Q) :
    P ⊢ WP c (p >>= k) Q := by
  show _ ⊢ wp _ _ _ (p >>= k) Q
  rw [wp_bind]; exact H

/-- What device `c` holds of its receive cells and its send cells from the start. -/
def recvPre (c : Dev nD) : sProp 𝕄 := bigSep Finset.univ fun j : Dev nD =>
  iprop(atPos ER (recvCell c j) 0 ∅ 0 ∗ (if j = c then iprop(emp) else cred (tallyAt (recvCell c j) () N)))
def sendPre (c : Dev nD) : sProp 𝕄 := bigSep Finset.univ fun j : Dev nD => iprop(atPos ER (sendCell c j) 0 ∅ 0)
/-- What it holds of its credit cells at the end. -/
def credPost (c : Dev nD) : sProp 𝕄 := bigSep Finset.univ fun j : Dev nD => iprop(atPos ER (credCell c j) (if j = c then 0 else 1) ∅ 0)

/-- The carried resources of the stages. -/
def RW (c : Dev nD) : sProp 𝕄 := iprop(cred (tallyAt (wCell c) () NW) ∗ atPos ER (wCell c) 0 ∅ 0)
def RO (c : Dev nD) : sProp 𝕄 := iprop(recvPre c ∗ sendPre c ∗ ∃ f, oPts (F := F) c f)
def RA (c : Dev nD) : sProp 𝕄 :=
  iprop(cred (tallyAt (wCell c) () NW) ∗ atPos ER (wCell c) 0 ∅ 0 ∗ atPos ER (barCell c) 1 ∅ 0 ∗ xPts m ρ c ∗ bigSep Finset.univ (todoB c) ∗ RO c)
def RB (c : Dev nD) : sProp 𝕄 := iprop(rAny c c ∗ RW c ∗ atPos ER (barCell c) 1 ∅ 0 ∗ RO c)
def RD (c : Dev nD) : sProp 𝕄 :=
  iprop((∃ f, oPts (F := F) c f) ∗ aPts m c ∗ atPos ER (wCell c) 1 ∅ 0 ∗ xPts m ρ c ∗ bigSep Finset.univ (todoE c) ∗ credPost c ∗ atPos ER (barCell c) 1 ∅ 0)
def RE (c : Dev nD) (v : S64x1024.Idx → Elt F .f32) : sProp 𝕄 :=
  iprop(oPts c v ∗ bigSep Finset.univ (doneD m ρ c) ∗ wPts m c ∗ aPts m c ∗ atPos ER (wCell c) 1 ∅ 0 ∗ xPts m ρ c ∗ credPost c ∗ atPos ER (barCell c) 1 ∅ 0)

/-- The credits are all given: the sends begin. -/
theorem toB (c : Dev nD) : StA m ρ K c 16 (RA m ρ c) ⊢ StB m ρ K c 0 (RB c) := by
  unfold StA StB RA RB RW
  rw [owedA_end, add_zero, fam_end, fam_zero]
  iintro ⟨Hc, Ho, Hf, HcW, HaW, HaB, Hx, HB, HO⟩
  isplitl [Hc]; · iexact Hc
  isplitl [Ho]; · iexact Ho
  isplitl [Hx]; · iexact Hx
  isplitl [HB]; · iexact HB
  isplitl [Hf]
  · ihave H := (show (bigSep Finset.univ (doneA c) : sProp 𝕄) ⊢ doneA c c from bigSep_elim (Finset.mem_univ c)) $$ Hf
    ihave H := (Entails.of_eq (show doneA (F := F) c c = todoA c c from if_pos rfl)) $$ H
    unfold todoA
    icases H with ⟨-, H⟩
    iexact H
  isplitl [HcW HaW]
  · isplitl [HcW] <;> iassumption
  isplitl [HaB] <;> iassumption

/-- Each send cell of device `c`, once its send is made. -/
theorem sent_one (c j : Dev nD) :
    iprop(doneB (F := F) c j ∗ atPos ER (sendCell c j) 0 ∅ 0)
      ⊢ iprop(todoE c j ∗ atPos ER (credCell c j) (if j = c then 0 else 1) ∅ 0) := by
  unfold doneB todoE
  by_cases h : j = c
  · rw [if_pos h, if_pos h, if_pos h]
    iintro ⟨⟨H1, H2⟩, H3⟩
    isplitl [H3 H2]
    · isplitl [H3] <;> iassumption
    · iexact H1
  · rw [if_neg h, if_neg h, if_neg h]
    iintro ⟨⟨H1, H2⟩, H3⟩
    isplitl [H3 H2]
    · isplitl [H3] <;> iassumption
    · iexact H1

/-- The blocks are all sent: the device's own block is next. -/
theorem toC (c : Dev nD) : StB m ρ K c 16 (RB c)
    ⊢ iprop(ctx m ρ K ∗ ow c 0 ∗ xPts m ρ c ∗ rAny c c ∗ (cred (tallyAt (wCell c) () NW) ∗ atPos ER (wCell c) 0 ∅ 0)
        ∗ ((∃ f, oPts (F := F) c f) ∗ bigSep Finset.univ (todoE c) ∗ credPost c ∗ recvPre c ∗ atPos ER (barCell c) 1 ∅ 0)) := by
  unfold StB RB RW RO
  rw [owedB_end, fam_end]
  iintro ⟨Hc, Ho, Hx, HB, Hr, HW, HaB, Hre, Hse, Hou⟩
  isplitl [Hc]; · iexact Hc
  isplitl [Ho]; · iexact Ho
  isplitl [Hx]; · iexact Hx
  isplitl [Hr]; · iexact Hr
  isplitl [HW]; · iexact HW
  isplitl [Hou]; · iexact Hou
  have h : iprop(bigSep Finset.univ (doneB (F := F) c) ∗ sendPre c) ⊢ iprop(bigSep Finset.univ (todoE c) ∗ credPost c) := by
    unfold sendPre credPost
    rw [← bigSep_sep', ← bigSep_sep']
    exact bigSep_mono fun j _ => sent_one c j
  ihave H := h $$ [HB Hse]
  · isplitl [HB] <;> iassumption
  icases H with ⟨H1, H2⟩
  isplitl [H1]; · iexact H1
  isplitl [H2]; · iexact H2
  isplitl [Hre] <;> iassumption

/-- The device's own block is in place: the receives begin. -/
theorem toD (c : Dev nD) :
    iprop(ctx m ρ K ∗ ow c 0 ∗ xPts m ρ c ∗ rHolds m ρ c c ∗ (wPts m c ∗ aPts m c ∗ atPos ER (wCell c) 1 ∅ 0)
        ∗ ((∃ f, oPts (F := F) c f) ∗ bigSep Finset.univ (todoE c) ∗ credPost c ∗ recvPre c ∗ atPos ER (barCell c) 1 ∅ 0))
      ⊢ StD m ρ K c 0 (RD m ρ c) := by
  unfold StD RD
  rw [fam_zero]
  iintro ⟨Hc, Ho, Hx, Hr, ⟨Hw, Ha, HaW⟩, Hou, HE, Hcr, Hre, HaB⟩
  isplitl [Hc]; · iexact Hc
  isplitl [Ho]; · iexact Ho
  isplitl [Hw]; · iexact Hw
  isplitl [Hr Hre]
  · have h : iprop(rHolds m ρ c c ∗ recvPre c) ⊢ bigSep Finset.univ (todoD m ρ c) := by
      unfold recvPre
      rw [bigSep_univ_at _ c, bigSep_univ_at (todoD m ρ c) c, if_pos rfl,
        show todoD m ρ c c = iprop(atPos ER (recvCell c c) 0 ∅ 0 ∗ rHolds m ρ c c) from if_pos rfl]
      have hm : bigSep (Finset.univ.erase c) (fun j : Dev nD =>
            iprop(atPos ER (recvCell c j) 0 ∅ 0 ∗ (if j = c then iprop(emp) else cred (tallyAt (recvCell c j) () N))))
          ⊢ bigSep (Finset.univ.erase c) (todoD m ρ c) :=
        bigSep_mono fun j hj => by
          have hj := (Finset.mem_erase.mp hj).1
          unfold todoD; rw [if_neg hj, if_neg hj]
          exact Entails.refl _
      iintro ⟨Hr, ⟨Ha, -⟩, Hre⟩
      isplitl [Hr Ha]
      · isplitl [Ha] <;> iassumption
      · iapply hm; iexact Hre
    iapply h
    isplitl [Hr] <;> iassumption
  isplitl [Hou]; · iexact Hou
  isplitl [Ha]; · iexact Ha
  isplitl [HaW]; · iexact HaW
  isplitl [Hx]; · iexact Hx
  isplitl [HE]; · iexact HE
  isplitl [Hcr] <;> iassumption

/-- The blocks are all received and the result is stored: the sends are waited for. -/
theorem toE (c : Dev nD) (v : S64x1024.Idx → Elt F .f32) :
    iprop(oPts c v ∗ (ctx m ρ K ∗ ow c 0 ∗ wPts m c ∗ fam 16 (todoD m ρ c) (doneD m ρ c)
        ∗ aPts m c ∗ atPos ER (wCell c) 1 ∅ 0 ∗ xPts m ρ c ∗ bigSep Finset.univ (todoE c) ∗ credPost c ∗ atPos ER (barCell c) 1 ∅ 0))
      ⊢ StE m ρ K c 0 (RE m ρ c v) := by
  unfold StE RE
  rw [fam_zero, fam_end]
  iintro ⟨Hou, Hc, Ho, Hw, HD, Ha, HaW, Hx, HE, Hcr, HaB⟩
  isplitl [Hc]; · iexact Hc
  isplitl [Ho]; · iexact Ho
  isplitl [HE]; · iexact HE
  isplitl [Hou]; · iexact Hou
  isplitl [HD]; · iexact HD
  isplitl [Hw]; · iexact Hw
  isplitl [Ha]; · iexact Ha
  isplitl [HaW]; · iexact HaW
  isplitl [Hx]; · iexact Hx
  isplitl [Hcr] <;> iassumption

/-- The state of the receives, with the result's buffer in front. -/
theorem outFirst (c : Dev nD) : StD m ρ K c 16 (RD m ρ c)
    ⊢ iprop((∃ f, oPts (F := F) c f) ∗ (ctx m ρ K ∗ ow c 0 ∗ wPts m c ∗ fam 16 (todoD m ρ c) (doneD m ρ c)
        ∗ aPts m c ∗ atPos ER (wCell c) 1 ∅ 0 ∗ xPts m ρ c ∗ bigSep Finset.univ (todoE c) ∗ credPost c ∗ atPos ER (barCell c) 1 ∅ 0)) := by
  unfold StD RD
  iintro ⟨Hc, Ho, Hw, HD, Hou, H⟩
  isplitl [Hou]; · iexact Hou
  isplitl [Hc]; · iexact Hc
  isplitl [Ho]; · iexact Ho
  isplitl [Hw]; · iexact Hw
  isplitl [HD] <;> iassumption

/-! ## The sums -/

/-- The running sum after blocks 0; 0 to 3; 0 to 6; 0 to 10; 0 to 13, and the result. -/
def sum0 (c : Dev nD) : FVec F S64x1024 .f32 := k0_pay18 (sent m ρ c 0) (wrow m c 0)
def sum3 (c : Dev nD) : FVec F S64x1024 .f32 :=
  k0_pay19 (sum0 m ρ c) (sent m ρ c 1) (wrow m c 1) (sent m ρ c 2) (wrow m c 2) (sent m ρ c 3) (wrow m c 3)
def sum6 (c : Dev nD) : FVec F S64x1024 .f32 :=
  k0_pay20 (sum3 m ρ c) (sent m ρ c 4) (wrow m c 4) (sent m ρ c 5) (wrow m c 5) (sent m ρ c 6) (wrow m c 6)
def sum10 (c : Dev nD) : FVec F S64x1024 .f32 :=
  k0_pay22 (sum6 m ρ c) (k0_pay21 (sent m ρ c 7)) (wrow m c 7) (sent m ρ c 8) (wrow m c 8) (sent m ρ c 9) (wrow m c 9) (sent m ρ c 10) (wrow m c 10)
def sum13 (c : Dev nD) : FVec F S64x1024 .f32 :=
  k0_pay23 (sum10 m ρ c) (sent m ρ c 11) (wrow m c 11) (sent m ρ c 12) (wrow m c 12) (sent m ρ c 13) (wrow m c 13)
def res (c : Dev nD) : FVec F S64x1024 .f32 :=
  k0_pay24 (sum13 m ρ c) (sent m ρ c 14) (wrow m c 14) (sent m ρ c 15) (wrow m c 15)

/-! ## The parts -/

set_option maxHeartbeats 2000000 in
/-- Part 1: the start, and the credits of devices 0 to 6. -/
theorem part1 (c : Dev nD) {R : sProp 𝕄} {Q : (Σ' (d0 : Dev nD), BitVec 32) → sProp 𝕄} (H : StA m ρ K c 7 iprop(cred (tallyAt (wCell c) () NW) ∗ atPos ER (wCell c) 0 ∅ 0 ∗ atPos ER (barCell c) 1 ∅ 0 ∗ R) ⊢ Q ⟨c, my c⟩) :
    iprop(ctx m ρ K ∗ ow c (O₀ c) ∗ fam 0 (todoA c) (doneA c)
        ∗ (aPts m c ∗ (∃ f : Buf (Elt F) ((c : Thread nD τ).loc cc0_scratch2), ((c : Thread nD τ).loc cc0_scratch2) ↦{fullShare} f)
            ∗ dutyTok ER (wCell c) 0 () ∗ atPos ER (wCell c) 0 ∅ 0)
        ∗ (cred (tallyAt (barCell c) () 1) ∗ dutyTok ER (barCell c) 0 () ∗ atPos ER (barCell c) 0 ∅ 0) ∗ R) ⊢ WP c (k0_part1 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6) Q := by
  rw [k0_part1_eq_skeleton]
  unfold k0_part1_skel
  refine wp_entry m ρ K c ?_
  refine wp_credit m ρ K c 0 0 1 rfl rfl (k0_cond1 c) ((show ∀ d : Dev nD, k0_cond1 d = 1#1 ↔ (0 : Dev nD) ≠ d by decide +kernel) c) (k0_off1 c) (k0_off1_eq c) (k0_off1_inb c) k0_dev1 k0_dev1_eq (k0_dev1_lt c) ?_
  refine wp_credit m ρ K c 1 1 2 rfl rfl (k0_cond2 c) ((show ∀ d : Dev nD, k0_cond2 d = 1#1 ↔ (1 : Dev nD) ≠ d by decide +kernel) c) (k0_off2 c) (k0_off2_eq c) (k0_off2_inb c) k0_dev2 k0_dev2_eq (k0_dev2_lt c) ?_
  refine wp_credit m ρ K c 2 2 3 rfl rfl (k0_cond3 c) ((show ∀ d : Dev nD, k0_cond3 d = 1#1 ↔ (2 : Dev nD) ≠ d by decide +kernel) c) (k0_off3 c) (k0_off3_eq c) (k0_off3_inb c) k0_dev3 k0_dev3_eq (k0_dev3_lt c) ?_
  refine wp_credit m ρ K c 3 3 4 rfl rfl (k0_cond4 c) ((show ∀ d : Dev nD, k0_cond4 d = 1#1 ↔ (3 : Dev nD) ≠ d by decide +kernel) c) (k0_off4 c) (k0_off4_eq c) (k0_off4_inb c) k0_dev4 k0_dev4_eq (k0_dev4_lt c) ?_
  refine wp_credit m ρ K c 4 4 5 rfl rfl (k0_cond5 c) ((show ∀ d : Dev nD, k0_cond5 d = 1#1 ↔ (4 : Dev nD) ≠ d by decide +kernel) c) (k0_off5 c) (k0_off5_eq c) (k0_off5_inb c) k0_dev5 k0_dev5_eq (k0_dev5_lt c) ?_
  refine wp_credit m ρ K c 5 5 6 rfl rfl (k0_cond6 c) ((show ∀ d : Dev nD, k0_cond6 d = 1#1 ↔ (5 : Dev nD) ≠ d by decide +kernel) c) (k0_off6 c) (k0_off6_eq c) (k0_off6_inb c) k0_dev6 k0_dev6_eq (k0_dev6_lt c) ?_
  refine wp_credit m ρ K c 6 6 7 rfl rfl (k0_cond7 c) ((show ∀ d : Dev nD, k0_cond7 d = 1#1 ↔ (6 : Dev nD) ≠ d by decide +kernel) c) (k0_off7 c) (k0_off7_eq c) (k0_off7_inb c) k0_dev7 k0_dev7_eq (k0_dev7_lt c) ?_
  exact wp_end c _ H

set_option maxHeartbeats 2000000 in
/-- Part 2: the credits of devices 7 to 15, and the send to device 0. -/
theorem part2 (c : Dev nD) {Q : PUnit → sProp 𝕄} (H : StB m ρ K c 1 (RB c) ⊢ Q ⟨⟩) :
    StA m ρ K c 7 (RA m ρ c) ⊢ WP c (k0_part2 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 c (my c)) Q := by
  rw [k0_part2_eq_skeleton]
  unfold k0_part2_skel
  refine wp_credit m ρ K c 7 7 8 rfl rfl (k0_cond8 c) ((show ∀ d : Dev nD, k0_cond8 d = 1#1 ↔ (7 : Dev nD) ≠ d by decide +kernel) c) (k0_off8 c) (k0_off8_eq c) (k0_off8_inb c) k0_dev8 k0_dev8_eq (k0_dev8_lt c) ?_
  refine wp_credit m ρ K c 8 8 9 rfl rfl (k0_cond9 c) ((show ∀ d : Dev nD, k0_cond9 d = 1#1 ↔ (8 : Dev nD) ≠ d by decide +kernel) c) (k0_off9 c) (k0_off9_eq c) (k0_off9_inb c) k0_dev9 k0_dev9_eq (k0_dev9_lt c) ?_
  refine wp_credit m ρ K c 9 9 10 rfl rfl (k0_cond10 c) ((show ∀ d : Dev nD, k0_cond10 d = 1#1 ↔ (9 : Dev nD) ≠ d by decide +kernel) c) (k0_off10 c) (k0_off10_eq c) (k0_off10_inb c) k0_dev10 k0_dev10_eq (k0_dev10_lt c) ?_
  refine wp_credit m ρ K c 10 10 11 rfl rfl (k0_cond11 c) ((show ∀ d : Dev nD, k0_cond11 d = 1#1 ↔ (10 : Dev nD) ≠ d by decide +kernel) c) (k0_off11 c) (k0_off11_eq c) (k0_off11_inb c) k0_dev11 k0_dev11_eq (k0_dev11_lt c) ?_
  refine wp_credit m ρ K c 11 11 12 rfl rfl (k0_cond12 c) ((show ∀ d : Dev nD, k0_cond12 d = 1#1 ↔ (11 : Dev nD) ≠ d by decide +kernel) c) (k0_off12 c) (k0_off12_eq c) (k0_off12_inb c) k0_dev12 k0_dev12_eq (k0_dev12_lt c) ?_
  refine wp_credit m ρ K c 12 12 13 rfl rfl (k0_cond13 c) ((show ∀ d : Dev nD, k0_cond13 d = 1#1 ↔ (12 : Dev nD) ≠ d by decide +kernel) c) (k0_off13 c) (k0_off13_eq c) (k0_off13_inb c) k0_dev13 k0_dev13_eq (k0_dev13_lt c) ?_
  refine wp_credit m ρ K c 13 13 14 rfl rfl (k0_cond14 c) ((show ∀ d : Dev nD, k0_cond14 d = 1#1 ↔ (13 : Dev nD) ≠ d by decide +kernel) c) (k0_off14 c) (k0_off14_eq c) (k0_off14_inb c) k0_dev14 k0_dev14_eq (k0_dev14_lt c) ?_
  refine wp_credit m ρ K c 14 14 15 rfl rfl (k0_cond15 c) ((show ∀ d : Dev nD, k0_cond15 d = 1#1 ↔ (14 : Dev nD) ≠ d by decide +kernel) c) (k0_off15 c) (k0_off15_eq c) (k0_off15_inb c) k0_dev15 k0_dev15_eq (k0_dev15_lt c) ?_
  refine wp_credit m ρ K c 15 15 16 rfl rfl (k0_cond16 c) ((show ∀ d : Dev nD, k0_cond16 d = 1#1 ↔ (15 : Dev nD) ≠ d by decide +kernel) c) (k0_off16 c) (k0_off16_eq c) (k0_off16_inb c) k0_dev16 k0_dev16_eq (k0_dev16_lt c) ?_
  refine (toB m ρ K c).trans ?_
  refine wp_send m ρ K c 0 0 1 rfl rfl (k0_cond17 c) ((show ∀ d : Dev nD, k0_cond17 d = 1#1 ↔ (0 : Dev nD) ≠ d by decide +kernel) c) k0_pay1 rfl (k0_off17 c) (k0_off17_eq c) (k0_off17_inb c)
    (k0_off18 c) (k0_off18_eq c) (k0_off18_inb c) k0_dev17 k0_dev17_eq (k0_dev17_lt c) ?_
  exact wp_end c _ H

set_option maxHeartbeats 2000000 in
/-- Part 3: the sends to devices 1 to 10. -/
theorem part3 (c : Dev nD) {R : sProp 𝕄} {Q : PUnit → sProp 𝕄} (H : StB m ρ K c 11 R ⊢ Q ⟨⟩) :
    StB m ρ K c 1 R ⊢ WP c (k0_part3 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 c (my c)) Q := by
  rw [k0_part3_eq_skeleton]
  unfold k0_part3_skel
  refine wp_send m ρ K c 1 1 2 rfl rfl (k0_cond18 c) ((show ∀ d : Dev nD, k0_cond18 d = 1#1 ↔ (1 : Dev nD) ≠ d by decide +kernel) c) k0_pay2 rfl (k0_off19 c) (k0_off19_eq c) (k0_off19_inb c)
    (k0_off20 c) (k0_off20_eq c) (k0_off20_inb c) k0_dev18 k0_dev18_eq (k0_dev18_lt c) ?_
  refine wp_send m ρ K c 2 2 3 rfl rfl (k0_cond19 c) ((show ∀ d : Dev nD, k0_cond19 d = 1#1 ↔ (2 : Dev nD) ≠ d by decide +kernel) c) k0_pay3 rfl (k0_off21 c) (k0_off21_eq c) (k0_off21_inb c)
    (k0_off22 c) (k0_off22_eq c) (k0_off22_inb c) k0_dev19 k0_dev19_eq (k0_dev19_lt c) ?_
  refine wp_send m ρ K c 3 3 4 rfl rfl (k0_cond20 c) ((show ∀ d : Dev nD, k0_cond20 d = 1#1 ↔ (3 : Dev nD) ≠ d by decide +kernel) c) k0_pay4 rfl (k0_off23 c) (k0_off23_eq c) (k0_off23_inb c)
    (k0_off24 c) (k0_off24_eq c) (k0_off24_inb c) k0_dev20 k0_dev20_eq (k0_dev20_lt c) ?_
  refine wp_send m ρ K c 4 4 5 rfl rfl (k0_cond21 c) ((show ∀ d : Dev nD, k0_cond21 d = 1#1 ↔ (4 : Dev nD) ≠ d by decide +kernel) c) k0_pay5 rfl (k0_off25 c) (k0_off25_eq c) (k0_off25_inb c)
    (k0_off26 c) (k0_off26_eq c) (k0_off26_inb c) k0_dev21 k0_dev21_eq (k0_dev21_lt c) ?_
  refine wp_send m ρ K c 5 5 6 rfl rfl (k0_cond22 c) ((show ∀ d : Dev nD, k0_cond22 d = 1#1 ↔ (5 : Dev nD) ≠ d by decide +kernel) c) k0_pay6 rfl (k0_off27 c) (k0_off27_eq c) (k0_off27_inb c)
    (k0_off28 c) (k0_off28_eq c) (k0_off28_inb c) k0_dev22 k0_dev22_eq (k0_dev22_lt c) ?_
  refine wp_send m ρ K c 6 6 7 rfl rfl (k0_cond23 c) ((show ∀ d : Dev nD, k0_cond23 d = 1#1 ↔ (6 : Dev nD) ≠ d by decide +kernel) c) k0_pay7 rfl (k0_off29 c) (k0_off29_eq c) (k0_off29_inb c)
    (k0_off30 c) (k0_off30_eq c) (k0_off30_inb c) k0_dev23 k0_dev23_eq (k0_dev23_lt c) ?_
  refine wp_send m ρ K c 7 7 8 rfl rfl (k0_cond24 c) ((show ∀ d : Dev nD, k0_cond24 d = 1#1 ↔ (7 : Dev nD) ≠ d by decide +kernel) c) k0_pay8 rfl (k0_off31 c) (k0_off31_eq c) (k0_off31_inb c)
    (k0_off32 c) (k0_off32_eq c) (k0_off32_inb c) k0_dev24 k0_dev24_eq (k0_dev24_lt c) ?_
  refine wp_send m ρ K c 8 8 9 rfl rfl (k0_cond25 c) ((show ∀ d : Dev nD, k0_cond25 d = 1#1 ↔ (8 : Dev nD) ≠ d by decide +kernel) c) k0_pay9 rfl (k0_off33 c) (k0_off33_eq c) (k0_off33_inb c)
    (k0_off34 c) (k0_off34_eq c) (k0_off34_inb c) k0_dev25 k0_dev25_eq (k0_dev25_lt c) ?_
  refine wp_send m ρ K c 9 9 10 rfl rfl (k0_cond26 c) ((show ∀ d : Dev nD, k0_cond26 d = 1#1 ↔ (9 : Dev nD) ≠ d by decide +kernel) c) k0_pay10 rfl (k0_off35 c) (k0_off35_eq c) (k0_off35_inb c)
    (k0_off36 c) (k0_off36_eq c) (k0_off36_inb c) k0_dev26 k0_dev26_eq (k0_dev26_lt c) ?_
  refine wp_send m ρ K c 10 10 11 rfl rfl (k0_cond27 c) ((show ∀ d : Dev nD, k0_cond27 d = 1#1 ↔ (10 : Dev nD) ≠ d by decide +kernel) c) k0_pay11 rfl (k0_off37 c) (k0_off37_eq c) (k0_off37_inb c)
    (k0_off38 c) (k0_off38_eq c) (k0_off38_inb c) k0_dev27 k0_dev27_eq (k0_dev27_lt c) ?_
  exact wp_end c _ H

set_option maxHeartbeats 2000000 in
/-- Part 4: the sends to devices 11 to 15, the device's own block, and the block of device 0. -/
theorem part4 (c : Dev nD) {Q : FVec F S64x1024 .f32 → sProp 𝕄} (H : StD m ρ K c 1 (RD m ρ c) ⊢ Q (sum0 m ρ c)) :
    StB m ρ K c 11 (RB c) ⊢ WP c (k0_part4 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 c (my c)) Q := by
  rw [k0_part4_eq_skeleton]
  unfold k0_part4_skel
  refine wp_send m ρ K c 11 11 12 rfl rfl (k0_cond28 c) ((show ∀ d : Dev nD, k0_cond28 d = 1#1 ↔ (11 : Dev nD) ≠ d by decide +kernel) c) k0_pay12 rfl (k0_off39 c) (k0_off39_eq c) (k0_off39_inb c)
    (k0_off40 c) (k0_off40_eq c) (k0_off40_inb c) k0_dev28 k0_dev28_eq (k0_dev28_lt c) ?_
  refine wp_send m ρ K c 12 12 13 rfl rfl (k0_cond29 c) ((show ∀ d : Dev nD, k0_cond29 d = 1#1 ↔ (12 : Dev nD) ≠ d by decide +kernel) c) k0_pay13 rfl (k0_off41 c) (k0_off41_eq c) (k0_off41_inb c)
    (k0_off42 c) (k0_off42_eq c) (k0_off42_inb c) k0_dev29 k0_dev29_eq (k0_dev29_lt c) ?_
  refine wp_send m ρ K c 13 13 14 rfl rfl (k0_cond30 c) ((show ∀ d : Dev nD, k0_cond30 d = 1#1 ↔ (13 : Dev nD) ≠ d by decide +kernel) c) k0_pay14 rfl (k0_off43 c) (k0_off43_eq c) (k0_off43_inb c)
    (k0_off44 c) (k0_off44_eq c) (k0_off44_inb c) k0_dev30 k0_dev30_eq (k0_dev30_lt c) ?_
  refine wp_send m ρ K c 14 14 15 rfl rfl (k0_cond31 c) ((show ∀ d : Dev nD, k0_cond31 d = 1#1 ↔ (14 : Dev nD) ≠ d by decide +kernel) c) k0_pay15 rfl (k0_off45 c) (k0_off45_eq c) (k0_off45_inb c)
    (k0_off46 c) (k0_off46_eq c) (k0_off46_inb c) k0_dev31 k0_dev31_eq (k0_dev31_lt c) ?_
  refine wp_send m ρ K c 15 15 16 rfl rfl (k0_cond32 c) ((show ∀ d : Dev nD, k0_cond32 d = 1#1 ↔ (15 : Dev nD) ≠ d by decide +kernel) c) k0_pay16 rfl (k0_off47 c) (k0_off47_eq c) (k0_off47_inb c)
    (k0_off48 c) (k0_off48_eq c) (k0_off48_inb c) k0_dev32 k0_dev32_eq (k0_dev32_lt c) ?_
  refine (toC m ρ K c).trans ?_
  refine wp_own m ρ K c k0_pay17 rfl (k0_off49 c) (k0_off49_eq c) (k0_off50 c) (k0_off50_eq c) ?_
  refine (toD m ρ K c).trans ?_
  refine wp_recv m ρ K c 0 0 1 rfl rfl _ (notMe c 0) ?_
  refine wp_load_recv m ρ K c 0 1 (by decide) ?_
  refine wp_load_w m ρ K c 0 1 ?_
  exact wp_end c _ H

set_option maxHeartbeats 2000000 in
/-- Part 5: the blocks of devices 1 to 4. -/
theorem part5 (c : Dev nD) {R : sProp 𝕄} {Q : FVec F S64x1024 .f32 → sProp 𝕄} (H : StD m ρ K c 5 R ⊢ Q (sum3 m ρ c)) :
    StD m ρ K c 1 R ⊢ WP c (k0_part5 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c) (sum0 m ρ c)) Q := by
  rw [k0_part5_eq_skeleton]
  unfold k0_part5_skel
  refine wp_recv m ρ K c 1 1 2 rfl rfl _ (notMe c 1) ?_
  refine wp_load_recv m ρ K c 1 2 (by decide) ?_
  refine wp_load_w m ρ K c 1 2 ?_
  refine wp_recv m ρ K c 2 2 3 rfl rfl _ (notMe c 2) ?_
  refine wp_load_recv m ρ K c 2 3 (by decide) ?_
  refine wp_load_w m ρ K c 2 3 ?_
  refine wp_recv m ρ K c 3 3 4 rfl rfl _ (notMe c 3) ?_
  refine wp_load_recv m ρ K c 3 4 (by decide) ?_
  refine wp_load_w m ρ K c 3 4 ?_
  refine wp_recv m ρ K c 4 4 5 rfl rfl _ (notMe c 4) ?_
  exact wp_end c _ H

set_option maxHeartbeats 2000000 in
/-- Part 6: the blocks of devices 4 to 7. -/
theorem part6 (c : Dev nD) {R : sProp 𝕄} {Q : (Σ' (v172 : FVec F S64x1024 .f32), FVec F S64x64 .f32) → sProp 𝕄} (H : StD m ρ K c 8 R ⊢ Q ⟨sum6 m ρ c, k0_pay21 (sent m ρ c 7)⟩) :
    StD m ρ K c 5 R ⊢ WP c (k0_part6 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c) (sum3 m ρ c)) Q := by
  rw [k0_part6_eq_skeleton]
  unfold k0_part6_skel
  refine wp_load_recv m ρ K c 4 5 (by decide) ?_
  refine wp_load_w m ρ K c 4 5 ?_
  refine wp_recv m ρ K c 5 5 6 rfl rfl _ (notMe c 5) ?_
  refine wp_load_recv m ρ K c 5 6 (by decide) ?_
  refine wp_load_w m ρ K c 5 6 ?_
  refine wp_recv m ρ K c 6 6 7 rfl rfl _ (notMe c 6) ?_
  refine wp_load_recv m ρ K c 6 7 (by decide) ?_
  refine wp_load_w m ρ K c 6 7 ?_
  refine wp_recv m ρ K c 7 7 8 rfl rfl _ (notMe c 7) ?_
  refine wp_load_recv m ρ K c 7 8 (by decide) ?_
  exact wp_end c _ H

set_option maxHeartbeats 2000000 in
/-- Part 7: the blocks of devices 7 to 10. -/
theorem part7 (c : Dev nD) {R : sProp 𝕄} {Q : FVec F S64x1024 .f32 → sProp 𝕄} (H : StD m ρ K c 11 R ⊢ Q (sum10 m ρ c)) :
    StD m ρ K c 8 R ⊢ WP c (k0_part7 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c) (sum6 m ρ c) (k0_pay21 (sent m ρ c 7))) Q := by
  rw [k0_part7_eq_skeleton]
  unfold k0_part7_skel
  refine wp_load_w m ρ K c 7 8 ?_
  refine wp_recv m ρ K c 8 8 9 rfl rfl _ (notMe c 8) ?_
  refine wp_load_recv m ρ K c 8 9 (by decide) ?_
  refine wp_load_w m ρ K c 8 9 ?_
  refine wp_recv m ρ K c 9 9 10 rfl rfl _ (notMe c 9) ?_
  refine wp_load_recv m ρ K c 9 10 (by decide) ?_
  refine wp_load_w m ρ K c 9 10 ?_
  refine wp_recv m ρ K c 10 10 11 rfl rfl _ (notMe c 10) ?_
  refine wp_load_recv m ρ K c 10 11 (by decide) ?_
  refine wp_load_w m ρ K c 10 11 ?_
  exact wp_end c _ H

set_option maxHeartbeats 2000000 in
/-- Part 8: the blocks of devices 11 to 14. -/
theorem part8 (c : Dev nD) {R : sProp 𝕄} {Q : FVec F S64x1024 .f32 → sProp 𝕄} (H : StD m ρ K c 15 R ⊢ Q (sum13 m ρ c)) :
    StD m ρ K c 11 R ⊢ WP c (k0_part8 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c) (sum10 m ρ c)) Q := by
  rw [k0_part8_eq_skeleton]
  unfold k0_part8_skel
  refine wp_recv m ρ K c 11 11 12 rfl rfl _ (notMe c 11) ?_
  refine wp_load_recv m ρ K c 11 12 (by decide) ?_
  refine wp_load_w m ρ K c 11 12 ?_
  refine wp_recv m ρ K c 12 12 13 rfl rfl _ (notMe c 12) ?_
  refine wp_load_recv m ρ K c 12 13 (by decide) ?_
  refine wp_load_w m ρ K c 12 13 ?_
  refine wp_recv m ρ K c 13 13 14 rfl rfl _ (notMe c 13) ?_
  refine wp_load_recv m ρ K c 13 14 (by decide) ?_
  refine wp_load_w m ρ K c 13 14 ?_
  refine wp_recv m ρ K c 14 14 15 rfl rfl _ (notMe c 14) ?_
  exact wp_end c _ H

set_option maxHeartbeats 2000000 in
/-- Part 9: the blocks of devices 14 and 15, the result, and the waits for the sends to devices 0 to 3. -/
theorem part9 (c : Dev nD) {Q : PUnit → sProp 𝕄} (H : StE m ρ K c 4 (RE m ρ c (res m ρ c)) ⊢ Q ⟨⟩) :
    StD m ρ K c 15 (RD m ρ c) ⊢ WP c (k0_part9 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c) (sum13 m ρ c)) Q := by
  rw [k0_part9_eq_skeleton]
  unfold k0_part9_skel
  refine wp_load_recv m ρ K c 14 15 (by decide) ?_
  refine wp_load_w m ρ K c 14 15 ?_
  refine wp_recv m ρ K c 15 15 16 rfl rfl _ (notMe c 15) ?_
  refine wp_load_recv m ρ K c 15 16 (by decide) ?_
  refine wp_load_w m ρ K c 15 16 ?_
  refine (outFirst m ρ K c).trans ?_
  refine wp_out c _ (res m ρ c) _ ?_
  refine (toE m ρ K c _).trans ?_
  refine wp_sent m ρ K c 0 0 1 rfl rfl _ (notMe c 0) ?_
  refine wp_sent m ρ K c 1 1 2 rfl rfl _ (notMe c 1) ?_
  refine wp_sent m ρ K c 2 2 3 rfl rfl _ (notMe c 2) ?_
  refine wp_sent m ρ K c 3 3 4 rfl rfl _ (notMe c 3) ?_
  exact wp_end c _ H

set_option maxHeartbeats 2000000 in
/-- Part 10: the waits for the sends to devices 4 to 13. -/
theorem part10 (c : Dev nD) {R : sProp 𝕄} {Q : PUnit → sProp 𝕄} (H : StE m ρ K c 14 R ⊢ Q ⟨⟩) :
    StE m ρ K c 4 R ⊢ WP c (k0_part10 (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6 (my c)) Q := by
  rw [k0_part10_eq_skeleton]
  unfold k0_part10_skel
  refine wp_sent m ρ K c 4 4 5 rfl rfl _ (notMe c 4) ?_
  refine wp_sent m ρ K c 5 5 6 rfl rfl _ (notMe c 5) ?_
  refine wp_sent m ρ K c 6 6 7 rfl rfl _ (notMe c 6) ?_
  refine wp_sent m ρ K c 7 7 8 rfl rfl _ (notMe c 7) ?_
  refine wp_sent m ρ K c 8 8 9 rfl rfl _ (notMe c 8) ?_
  refine wp_sent m ρ K c 9 9 10 rfl rfl _ (notMe c 9) ?_
  refine wp_sent m ρ K c 10 10 11 rfl rfl _ (notMe c 10) ?_
  refine wp_sent m ρ K c 11 11 12 rfl rfl _ (notMe c 11) ?_
  refine wp_sent m ρ K c 12 12 13 rfl rfl _ (notMe c 12) ?_
  refine wp_sent m ρ K c 13 13 14 rfl rfl _ (notMe c 13) ?_
  exact wp_end c _ H

set_option maxHeartbeats 2000000 in
/-- The whole body on device `c`. -/
theorem body (c : Dev nD) {Q : PUnit → sProp 𝕄} (H : StE m ρ K c 16 (RE m ρ c (res m ρ c)) ⊢ Q ⟨⟩) :
    iprop(ctx m ρ K ∗ ow c (O₀ c) ∗ fam 0 (todoA c) (doneA c)
        ∗ (aPts m c ∗ (∃ f : Buf (Elt F) ((c : Thread nD τ).loc cc0_scratch2), ((c : Thread nD τ).loc cc0_scratch2) ↦{fullShare} f)
            ∗ dutyTok ER (wCell c) 0 () ∗ atPos ER (wCell c) 0 ∅ 0)
        ∗ (cred (tallyAt (barCell c) () 1) ∗ dutyTok ER (barCell c) 0 () ∗ atPos ER (barCell c) 0 ∅ 0) ∗ (xPts m ρ c ∗ bigSep Finset.univ (todoB c) ∗ RO c))
      ⊢ WP c (cc0_body (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6) Q := by
  rw [cc0_body_eq_skeleton]
  unfold cc0_body_skel
  refine wp_seq c (part1 m ρ K c ?_)
  refine wp_seq c (part2 m ρ K c ?_)
  refine wp_seq c (part3 m ρ K c ?_)
  refine wp_seq c (part4 m ρ K c ?_)
  refine wp_seq c (part5 m ρ K c ?_)
  refine wp_seq c (part6 m ρ K c ?_)
  refine wp_seq c (part7 m ρ K c ?_)
  refine wp_seq c (part8 m ρ K c ?_)
  refine wp_seq c (part9 m ρ K c ?_)
  refine wp_seq c (part10 m ρ K c ?_)
  refine wp_sent m ρ K c 14 14 15 rfl rfl _ (notMe c 14) ?_
  refine wp_sent m ρ K c 15 15 16 rfl rfl _ (notMe c 15) ?_
  exact wp_end c _ H

end Cert.A2A

end
-- ==== Proof.Whole.lean ====
/-
The all-to-all matrix product, `Whole`: what a device starts the kernel with and what it ends it with, and the pipeline's
obligation on the kernel's body.
-/
module

public import proofs.«01_k».proof.Proof.Parts

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The slots of a buffer -/

theorem slot_mem (j : Dev nD) (i : S16x64x64.Idx) : i ∈ (slotR j).set ↔ (i 0).val = j.val := by
  rw [Rect.mem_set_unit]
  constructor
  · intro h
    have h0 := h 0
    have e1 : (![j.val, 0, 0] : Fin 3 → ℕ) 0 = j.val := rfl
    have e2 : S1x64x64.size 0 = 1 := rfl
    rw [e1, e2] at h0
    omega
  · intro h a
    have hi := (i a).isLt
    fin_cases a
    · show j.val ≤ (i 0).val ∧ (i 0).val < j.val + 1
      omega
    · exact ⟨Nat.zero_le _, by simpa using hi⟩
    · exact ⟨Nat.zero_le _, by simpa using hi⟩

theorem slots_disjoint (j j' : Dev nD) (h : j ≠ j') : Disjoint (slotR j).set (slotR j').set :=
  Finset.disjoint_left.mpr fun i h1 h2 => h (Fin.ext ((slot_mem j i).mp h1 ▸ (slot_mem j' i).mp h2))
theorem slots_cover : Finset.univ.biUnion (fun j : Dev nD => (slotR j).set) = Finset.univ :=
  Finset.eq_univ_of_forall fun i => Finset.mem_biUnion.mpr ⟨⟨(i 0).val, (i 0).isLt⟩, Finset.mem_univ _, (slot_mem _ i).mpr rfl⟩

theorem rSet_eq (j : Dev nD) : rSet j = (slotR j).set := View.set_slice_whole _ _
theorem sSet_eq (j : Dev nD) : sSet j = (slotR j).set := View.set_slice_whole _ _

theorem rSet_disjoint (j j' : Dev nD) (h : j ≠ j') : Disjoint (rSet j) (rSet j') := by
  rw [rSet_eq, rSet_eq]; exact slots_disjoint j j' h
theorem rSet_cover : Finset.univ.biUnion (fun j : Dev nD => rSet j) = Finset.univ := by
  simp only [rSet_eq]; exact slots_cover
theorem sSet_disjoint (j j' : Dev nD) (h : j ≠ j') : Disjoint (sSet j) (sSet j') := by
  rw [sSet_eq, sSet_eq]; exact slots_disjoint j j' h
theorem sSet_cover : Finset.univ.biUnion (fun j : Dev nD => sSet j) = Finset.univ := by
  simp only [sSet_eq]; exact slots_cover

/-- The three scratch buffers of device `c`, at any contents. -/
def rBuf (c : Dev nD) : sProp 𝕄 := iprop(∃ f : Buf (Elt F) ((c : Thread nD τ).loc cc0_scratch0), ((c : Thread nD τ).loc cc0_scratch0) ↦{fullShare} f)
def sBuf (c : Dev nD) : sProp 𝕄 := iprop(∃ f : Buf (Elt F) ((c : Thread nD τ).loc cc0_scratch1), ((c : Thread nD τ).loc cc0_scratch1) ↦{fullShare} f)
def wBuf (c : Dev nD) : sProp 𝕄 := iprop(∃ f : Buf (Elt F) ((c : Thread nD τ).loc cc0_scratch2), ((c : Thread nD τ).loc cc0_scratch2) ↦{fullShare} f)

theorem rPts_any (c j : Dev nD) (f) : rPts (F := F) c j f ⊢ rAny c j := by unfold rAny; iintro H; iexists f; iexact H
theorem sPts_any (c j : Dev nD) (f) : sPts (F := F) c j f ⊢ sAny c j := by unfold sAny; iintro H; iexists f; iexact H
theorem rHolds_any (c j : Dev nD) : rHolds (F := F) m ρ c j ⊢ rAny c j := by
  unfold rHolds; iintro ⟨%f, -, H⟩; unfold rAny; iexists f; iexact H
theorem rBuf_split (c : Dev nD) : rBuf (F := F) c ⊢ bigSep Finset.univ fun j : Dev nD => rAny c j := by
  unfold rBuf
  iintro ⟨%f, H⟩
  ihave H := (Entails.of_eq (Ring.pointsTo_blocks (fun j : Dev nD => rSet j) (ℓ := (c : Thread nD τ).loc cc0_scratch0) rSet_disjoint rSet_cover f)) $$ H
  iapply (show (bigSep Finset.univ fun j : Dev nD => rPts c j f) ⊢ bigSep Finset.univ fun j : Dev nD => rAny c j from
    bigSep_mono fun j _ => rPts_any c j f)
  iexact H
theorem rBuf_join (c : Dev nD) : (bigSep Finset.univ fun j : Dev nD => rHolds (F := F) m ρ c j) ⊢ rBuf c := by
  refine BIBase.Entails.trans (bigSep_mono fun j _ => ?_)
    (Ring.pointsTo_blocks_join_exists (fun j : Dev nD => rSet j) (ℓ := (c : Thread nD τ).loc cc0_scratch0) rSet_disjoint rSet_cover
      (m ((c : Thread nD τ).loc cc0_scratch0)))
  have h := rHolds_any m ρ c j
  unfold rAny rPts at h
  exact h
theorem sBuf_split (c : Dev nD) : sBuf (F := F) c ⊢ bigSep Finset.univ fun j : Dev nD => sAny c j := by
  unfold sBuf
  iintro ⟨%f, H⟩
  ihave H := (Entails.of_eq (Ring.pointsTo_blocks (fun j : Dev nD => sSet j) (ℓ := (c : Thread nD τ).loc cc0_scratch1) sSet_disjoint sSet_cover f)) $$ H
  iapply (show (bigSep Finset.univ fun j : Dev nD => sPts c j f) ⊢ bigSep Finset.univ fun j : Dev nD => sAny c j from
    bigSep_mono fun j _ => sPts_any c j f)
  iexact H
include m in
theorem sBuf_join (c : Dev nD) : (bigSep Finset.univ fun j : Dev nD => sAny (F := F) c j) ⊢ sBuf c := by
  refine BIBase.Entails.trans (bigSep_mono fun j _ => ?_)
    (Ring.pointsTo_blocks_join_exists (fun j : Dev nD => sSet j) (ℓ := (c : Thread nD τ).loc cc0_scratch1) sSet_disjoint sSet_cover
      (m ((c : Thread nD τ).loc cc0_scratch1)))
  unfold sAny sPts
  exact Entails.refl _

/-! ## The cells of a device, by kind -/

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_KO (Φ : KO → sProp 𝕄) : bigSep Finset.univ Φ
    = iprop(Φ (.inl ()) ∗ (bigSep Finset.univ fun j : Dev nD => Φ (.inr (0, j)))
        ∗ (bigSep Finset.univ fun j : Dev nD => Φ (.inr (1, j))) ∗ bigSep Finset.univ fun j : Dev nD => Φ (.inr (2, j))) := by
  have h := bigSep_univ_sum Φ
  rw [bigSep_univ_of_subsingleton (), bigSep_univ_prod, bigSep_fin3] at h
  exact h
theorem bigSep_KA (Φ : KA → sProp 𝕄) : bigSep Finset.univ Φ = iprop(Φ kBar ∗ bigSep Finset.univ fun k : KO => Φ (.inr k)) := by
  have h := bigSep_univ_sum Φ
  rw [bigSep_univ_of_subsingleton ()] at h
  exact h

/-! ## The start -/

/-- The tokens of the duties device `c` pays. -/
def payToks (c : Dev nD) : sProp 𝕄 :=
  iprop(dutyTok ER (barCell c) 0 () ∗ dutyTok ER (wCell c) 0 () ∗ (bigSep Finset.univ fun j : Dev nD => dutyTok ER (sendCell c j) 0 ())
    ∗ (bigSep Finset.univ fun j : Dev nD => dutyTok ER (recvCell j c) 0 ()) ∗ bigSep Finset.univ fun j : Dev nD => dutyTok ER (credCell j c) 0 ())
/-- Device `c`'s positions at its cells, and those tokens. -/
def linear (c : Dev nD) : sProp 𝕄 := iprop((bigSep Finset.univ fun k : KA => atPos ER (kcell (c, k)) 0 ∅ 0) ∗ payToks c)
/-- The units other devices (and it itself) will signal at its cells. -/
def credits (c : Dev nD) : sProp 𝕄 :=
  iprop(cred (tallyAt (barCell c) () 1) ∗ (bigSep Finset.univ fun j : Dev nD => if j = c then iprop(emp) else cred (tallyAt (recvCell c j) () N))
    ∗ bigSep Finset.univ fun j : Dev nD => if j = c then iprop(emp) else cred (tallyAt (credCell c j) () 1))
/-- What device `c`'s body starts from. -/
def start (c : Dev nD) : sProp 𝕄 := iprop((∃ K, ctx m ρ K ∗ linear c) ∗ credits c ∗ aPts m c)

def Φ₀ (c : Dev nD) : sProp 𝕄 := iprop(start m ρ c ∗ rBuf c ∗ sBuf c ∗ wBuf c)
/-- What it ends with: its scratch buffers, its semaphores at zero, and its argument buffer of `w`. -/
def Φ₁ (c : Dev nD) : sProp 𝕄 :=
  iprop((rBuf c ∗ sBuf c ∗ wBuf c) ∗ Pipeline.ownSems0 osem c ∗ semVal (barCell c) 0 ∗ aPts m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => res m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The start's resources, as the body takes them. -/
theorem start_body (c : Dev nD) :
    iprop(ctx m ρ K ∗ linear c ∗ credits c ∗ aPts m c ∗ (rBuf c ∗ sBuf c ∗ wBuf c) ∗ ow c (O₀ c) ∗ xPts m ρ c ∗ (∃ f, oPts c f))
      ⊢ iprop(ctx m ρ K ∗ ow c (O₀ c) ∗ fam 0 (todoA c) (doneA c)
        ∗ (aPts m c ∗ (∃ f : Buf (Elt F) ((c : Thread nD τ).loc cc0_scratch2), ((c : Thread nD τ).loc cc0_scratch2) ↦{fullShare} f)
            ∗ dutyTok ER (wCell c) 0 () ∗ atPos ER (wCell c) 0 ∅ 0)
        ∗ (cred (tallyAt (barCell c) () 1) ∗ dutyTok ER (barCell c) 0 () ∗ atPos ER (barCell c) 0 ∅ 0)
        ∗ (xPts m ρ c ∗ bigSep Finset.univ (todoB c) ∗ RO c)) := by
  unfold linear payToks credits RO recvPre sendPre
  rw [fam_zero, bigSep_KA, bigSep_KO,
    show todoA (F := F) c = fun j => iprop(dutyTok ER (credCell j c) 0 () ∗ rAny c j) from funext fun j => rfl, bigSep_sep',
    show todoB (F := F) c = fun j => iprop(atPos ER (credCell c j) 0 ∅ 0 ∗ sAny c j ∗ (if j = c then iprop(emp) else cred (tallyAt (credCell c j) () 1))
      ∗ dutyTok ER (sendCell c j) 0 () ∗ dutyTok ER (recvCell j c) 0 ()) from funext fun j => rfl,
    bigSep_sep', bigSep_sep', bigSep_sep', bigSep_sep', bigSep_sep']
  iintro ⟨Hctx, ⟨⟨HaB, HaW, HaS, HaR, HaC⟩, HtB, HtW, HtS, HtR, HtC⟩, ⟨HcB, HcR, HcC⟩, Ha, ⟨Hr, Hs, Hw⟩, Ho, Hx, Hou⟩
  isplitl [Hctx]; · iexact Hctx
  isplitl [Ho]; · iexact Ho
  isplitl [HtC Hr]
  · isplitl [HtC]; · iexact HtC
    iapply (rBuf_split (F := F) c); iexact Hr
  isplitl [Ha Hw HtW HaW]
  · isplitl [Ha]; · iexact Ha
    isplitl [Hw]; · unfold wBuf; iexact Hw
    isplitl [HtW] <;> iassumption
  isplitl [HcB HtB HaB]
  · isplitl [HcB]; · iexact HcB
    isplitl [HtB] <;> iassumption
  isplitl [Hx]; · iexact Hx
  isplitl [HaC Hs HcC HtS HtR]
  · isplitl [HaC]; · iexact HaC
    isplitl [Hs]; · iapply (sBuf_split (F := F) c); iexact Hs
    isplitl [HcC]; · iexact HcC
    isplitl [HtS] <;> iassumption
  isplitl [HaR HcR]
  · isplitl [HaR] <;> iassumption
  isplitl [HaS] <;> iassumption

/-! ## The end -/

/-- A cell whose round is over closes: its counter is at zero. -/
theorem close (ck : Dev nD × KA) (R : ℕ) (hR : ∀ r, R ≤ r → (sched (F := F) m ρ).duties (kcell ck) r = ∅) :
    iprop(ctx m ρ K ∗ atPos ER (kcell ck) R ∅ 0) ⊢ |={Set.univ}=> semVal (kcell ck) 0 := by
  iintro ⟨#Hctx, Hat⟩
  iapply (Rounds.cell_close ER (sched m ρ) (Set.mem_univ (K ck)) (fun h => h) (R := R) hR)
  isplitr; · iapply (ctx_inv m ρ K ck); iexact Hctx
  iexact Hat

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells of one kind close together. -/
theorem close_kind (c : Dev nD) (t : Fin 3) :
    iprop(ctx m ρ K ∗ bigSep Finset.univ fun j : Dev nD => atPos ER (kcell (c, .inr (.inr (t, j)))) (if j = c then 0 else 1) ∅ 0)
      ⊢ |={Set.univ}=> bigSep Finset.univ fun j : Dev nD => semVal (kcell (c, .inr (.inr (t, j)))) 0 := by
  refine (bigSep_with fun j _ => close m ρ K (c, .inr (.inr (t, j))) (if j = c then 0 else 1) ?_).trans (bigSep_fupd _ _)
  by_cases h : j = c
  · rw [if_pos h]; subst h; exact duties_none m ρ _ (kduties_own j t)
  · rw [if_neg h]; exact duties_later m ρ _

def bodyPost (c : Dev nD) : sProp 𝕄 :=
  iprop(Φ₁ m c ∗ (dats m ρ 0 c).owesAt () t₀.succ ∗ stg c cc0_stg0_0 (xstg m ρ c) ∗ stg c cc0_stg1_0 (res m ρ c))

theorem end_body (c : Dev nD) : StE m ρ K c 16 (RE m ρ c (res m ρ c)) ⊢ |={Set.univ}=> bodyPost m ρ c := by
  unfold StE RE credPost
  rw [fam_end,
    show doneE (F := F) c = fun j => iprop(atPos ER (sendCell c j) (if j = c then 0 else 1) ∅ 0 ∗ sAny c j) from funext fun j => rfl, bigSep_sep',
    show doneD (F := F) m ρ c = fun j => iprop(atPos ER (recvCell c j) (if j = c then 0 else 1) ∅ 0 ∗ rHolds m ρ c j) from funext fun j => rfl, bigSep_sep']
  iintro ⟨#Hctx, Ho, ⟨HaS, Hs⟩, Hou, ⟨HaR, Hr⟩, Hw, Ha, HaW, Hx, HaC, HaB⟩
  imod (close_kind m ρ K c 0) $$ [HaS] with HzS
  · isplitr; · iexact Hctx
    iexact HaS
  imod (close_kind m ρ K c 1) $$ [HaR] with HzR
  · isplitr; · iexact Hctx
    iexact HaR
  imod (close_kind m ρ K c 2) $$ [HaC] with HzC
  · isplitr; · iexact Hctx
    iexact HaC
  imod (close m ρ K (c, kW) 1 (duties_later m ρ _)) $$ [HaW] with HzW
  · isplitr; · iexact Hctx
    iexact HaW
  imod (close m ρ K (c, kBar) 1 (duties_later m ρ _)) $$ [HaB] with HzB
  · isplitr; · iexact Hctx
    iexact HaB
  imodintro
  unfold bodyPost Φ₁ ow Dat.owesAt Pipeline.owesWithin Pipeline.ownSems0
  rw [show (dats m ρ 0 c).owed t₀.succ = 0 from rfl, bigSep_KO]
  icases Ho with ⟨%W, HO⟩
  isplitl [Hr Hs Hw HzS HzR HzC HzW HzB Ha]
  · isplitl [Hr Hs Hw]
    · isplitl [Hr]; · iapply (rBuf_join m ρ c); iexact Hr
      isplitl [Hs]; · iapply (sBuf_join m c); iexact Hs
      unfold wPts wBuf; iexists _; iexact Hw
    isplitl [HzS HzR HzC HzW]
    · isplitl [HzW]; · iexact HzW
      isplitl [HzS]; · iexact HzS
      isplitl [HzR] <;> iassumption
    isplitl [HzB] <;> iassumption
  isplitl [HO]
  · iexists W
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hou

/-! ## The obligation -/

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem sound_body (c : Dev nD) :
    bodyPre m ρ c ⊢ WP c (cc0_body (F := F) xM (Memref.isWhole_whole _) aM (Memref.isWhole_whole _) oM (Memref.isWhole_whole _)
        rM (Memref.isWhole_whole _) sM (Memref.isWhole_whole _) wM (Memref.isWhole_whole _) cc0_scratch3 cc0_scratch4 cc0_scratch5 cc0_scratch6)
      (fun _ => bodyPost m ρ c) := by
  refine BIBase.Entails.trans ?_ (wp_fupd _ _ _ _ _)
  unfold bodyPre Φ₀ start
  iintro ⟨⟨⟨⟨%K, Hctx, Hlin⟩, Hcr, Ha⟩, Hbuf⟩, Ho, ⟨%d0, %g0, %hg0, Hx⟩, ⟨%d1, %g1, %hg1, Hou⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply ((start_body m ρ K c).trans (body m ρ K c (end_body m ρ K c)))
  isplitl [Hctx]; · iexact Hctx
  isplitl [Hlin]; · iexact Hlin
  isplitl [Hcr]; · iexact Hcr
  isplitl [Ha]; · iexact Ha
  isplitl [Hbuf]; · iexact Hbuf
  isplitl [HO]; · unfold ow; iexists W; iexact HO
  isplitl [Hx]; · unfold xPts; iexact Hx
  iexists g1; unfold oPts; iexact Hou

set_option maxRecDepth 4000 in
/-- The pipeline's obligation on the body, on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact sound_body m ρ c

end Cert.A2A

end
-- ==== Proof.Launch.lean ====
/-
The all-to-all matrix product, `Launch`: every device starts with what its body takes, and the run of the whole machine.
-/
module

public import proofs.«01_k».proof.Proof.Whole
public import Idealize.ShloMosaic.Lib.Quiescent
public import Idealize.ShloMosaic.Lib.Pipeline.CollectiveSegs

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

/-! ## The launch element -/

theorem share_eq (c : Dev nD) (w : Fin cfg0.W) : (dats (F := F) m ρ 0 c).share w = fullShare := by unfold Dat.share; split <;> rfl

def ringCells : Finset (GSem nD τ sig) := Finset.univ.map ⟨kcell, kcell_injective⟩
/-- Each cell's one duty token. -/
abbrev tokOf (ck : Dev nD × KA) : GSem nD τ sig × ℕ × Unit := (kcell ck, 0, ())
theorem tokOf_injective : Function.Injective tokOf := fun _ _ h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSep Finset.univ fun k : KA => dutyTok ER (kcell (c, k)) 0 ()

/-- What the launch element deals device `c`. -/
def G (c : Dev nD) : sProp 𝕄 :=
  iprop((bigSep Finset.univ fun k : KA => roundState ER (sched m ρ) (kcell (c, k)) 0)
    ∗ (bigSep Finset.univ fun k : KA => iprop(atPos ER (kcell (c, k)) 0 ∅ 0 ∗ reached ER (kcell (c, k)) 0)) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KA => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched m ρ) ringCells ringToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The cells opened, for all devices at once -/

/-- The barrier's is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KA => semVal (kcell (c, k)) 0 : sProp 𝕄) := by
  rw [unscopedSems0_eq, bigSep_KA]
  unfold Pipeline.ownSems0
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KA => iprop(∃ κ : ℕ, cellInv ER (sched m ρ) κ (kcell (c, k))))
          ∗ (bigSep Finset.univ fun k : KA => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KA => semVal (kcell (c, k)) 0) ∗ bigSep Finset.univ fun k : KA => roundState ER (sched m ρ) (kcell (c, k)) 0)
      ⊢ (|={Set.univ}=> bigSep Finset.univ fun k : KA => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant, and that each has reached its first round. -/
def records : sProp 𝕄 :=
  iprop((bigSep Finset.univ fun ck : Dev nD × KA => cellInv ER (sched m ρ) (K ck) (kcell ck))
    ∗ bigSep Finset.univ fun ck : Dev nD × KA => reached ER (kcell ck) 0)
instance records_persistent : BI.Persistent (records (F := F) m ρ K) := by unfold records; infer_instance

/-- What each device gets of it all. -/
def G' (c : Dev nD) : sProp 𝕄 := iprop(∃ K, records m ρ K ∗ linear c)

theorem ghost_intro (c : Dev nD) : iprop(records m ρ K ∗ linear c) ⊢ G' (F := F) m ρ c := by
  unfold G'; iintro H; iexists K; iexact H

/-- The tokens go to the devices that pay the duties: those of a device's receive and credit cells `j` to device `j`. -/
theorem toks_around : (bigSep Finset.univ fun c : Dev nD => (toks c : sProp 𝕄)) ⊢ bigSep Finset.univ fun c : Dev nD => payToks c := by
  unfold toks payToks
  simp only [bigSep_KA, bigSep_KO]
  rw [bigSep_sep', bigSep_sep', bigSep_sep', bigSep_sep', bigSep_sep', bigSep_sep', bigSep_sep', bigSep_sep',
    Pipeline.bigSep_univ_comm (fun c j : Dev nD => (dutyTok ER (recvCell j c) 0 () : sProp 𝕄)),
    Pipeline.bigSep_univ_comm (fun c j : Dev nD => (dutyTok ER (credCell j c) 0 () : sProp 𝕄))]

theorem regroup :
    (bigSep Finset.univ fun c : Dev nD => iprop((bigSep Finset.univ fun k : KA => iprop(∃ κ : ℕ, cellInv ER (sched m ρ) κ (kcell (c, k))))
          ∗ (bigSep Finset.univ fun k : KA => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × KA => iprop(∃ κ : ℕ, cellInv ER (sched m ρ) κ (kcell ck))),
    bigSep_congr (s := Finset.univ) (fun (c : Dev nD) _ => bigSep_sep' Finset.univ (fun k : KA => (atPos ER (kcell (c, k)) 0 ∅ 0 : sProp 𝕄)) (fun k => reached ER (kcell (c, k)) 0)),
    bigSep_sep', ← bigSep_univ_prod (fun ck : Dev nD × KA => (reached ER (kcell ck) 0 : sProp 𝕄))]
  iintro ⟨HI, ⟨Hat, #HR⟩, Htok⟩
  ihave HK := (BI.bigSep_exists_pi Finset.univ (fun (ck : Dev nD × KA) (κ : ℕ) => (cellInv ER (sched m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply (Entails.of_eq (bigSep_sep' Finset.univ (fun c : Dev nD => bigSep Finset.univ fun k : KA => (atPos ER (kcell (c, k)) 0 ∅ 0 : sProp 𝕄)) payToks).symm)
    isplitl [Hat]; · iexact Hat
    iexact Htk

/-- The semaphores of all devices become the cells' invariants at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem tally_kcell (a b : Dev nD × KA) (n : ℕ) : (tallyAt (kcell a) () n : CellTallies nD τ sig Unit) (kcell b) () = if b = a then n else 0 := by
  rw [tallyAt_apply]
  by_cases h : b = a
  · rw [h, if_pos ⟨rfl, rfl⟩, if_pos rfl]
  · rw [if_neg fun h' => h (kcell_injective h'.1), if_neg h]

/-- What device `d`'s tallies of one kind, a unit (or a transfer) at every other device's cell `k`, hold at a cell. -/
theorem owed_kind (d : Dev nD) (k : KA) (n : ℕ) (ck : Dev nD × KA) :
    (∑ j ∈ Finset.univ.filter (fun j : Dev nD => 0 ≤ j.val ∧ j ≠ d), (tallyAt (kcell (j, k)) () n : CellTallies nD τ sig Unit)) (kcell ck) ()
      = if ck.2 = k ∧ ck.1 ≠ d then n else 0 := by
  obtain ⟨c, k'⟩ := ck
  rw [Finset.sum_apply, Finsupp.finset_sum_apply, Finset.sum_congr rfl fun j _ => tally_kcell (j, k) (c, k') n]
  by_cases h : k' = k ∧ c ≠ d
  · obtain ⟨rfl, h⟩ := h
    rw [if_pos ⟨rfl, h⟩, Finset.sum_eq_single c]
    · rw [if_pos rfl]
    · intro j _ hj; rw [if_neg fun e => hj (congrArg Prod.fst e).symm]
    · intro hc; exact absurd (Finset.mem_filter.mpr ⟨Finset.mem_univ _, Nat.zero_le _, h⟩) hc
  · rw [if_neg h]
    refine Finset.sum_eq_zero fun j hj => if_neg fun e => h ⟨congrArg Prod.snd e, ?_⟩
    rw [show c = j from congrArg Prod.fst e]; exact (Finset.mem_filter.mp hj).2.2

theorem owed_at (d : Dev nD) (ck : Dev nD × KA) : O₀ d (kcell ck) ()
    = (if ck.2 = kRecv d ∧ ck.1 ≠ d then N else 0) + (if ck.2 = kCred d ∧ ck.1 ≠ d then 1 else 0) + (if ck = (d, kBar) then 1 else 0) := by
  have hB : owedB d 0 (kcell ck) () = if ck.2 = kRecv d ∧ ck.1 ≠ d then N else 0 := owed_kind d (kRecv d) N ck
  have hA : owedA d 0 (kcell ck) () = if ck.2 = kCred d ∧ ck.1 ≠ d then 1 else 0 := owed_kind d (kCred d) 1 ck
  have hT : (tallyAt (barCell d) () 1 : CellTallies nD τ sig Unit) (kcell ck) () = if ck = (d, kBar) then 1 else 0 := tally_kcell (d, kBar) ck 1
  unfold O₀
  rw [Pi.add_apply, Finsupp.add_apply, Pi.add_apply, Finsupp.add_apply, hB, hA, hT]

theorem launch_at (ck : Dev nD × KA) (d : Dev nD) (n : ℕ) (h : ∀ e, O₀ e (kcell ck) () = if e = d then n else 0) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, Finset.sum_congr rfl fun e _ => h e, Finset.sum_ite_eq' Finset.univ d fun _ => n,
    if_pos (Finset.mem_univ _)]

theorem launch_bar (c : Dev nD) :
    tallyOn (barCell c) (launchCredit (Pipeline.owing O₀) 0 (barCell c)) = (tallyAt (barCell c) () 1 : CellTallies nD τ sig Unit) :=
  launch_at (c, kBar) c 1 fun e => by
    rw [owed_at, if_neg fun h => Sum.inl_ne_inr h.1, if_neg fun h => Sum.inl_ne_inr h.1]
    by_cases h : e = c
    · rw [h, if_pos rfl, if_pos rfl]
    · rw [if_neg fun h' => h (congrArg Prod.fst h').symm, if_neg h]

theorem kRecv_iff {j e : Dev nD} : kRecv j = kRecv e ↔ e = j :=
  ⟨fun h => (congrArg Prod.snd (Sum.inr.inj (Sum.inr.inj h))).symm, fun h => by rw [h]⟩
theorem kCred_iff {j e : Dev nD} : kCred j = kCred e ↔ e = j :=
  ⟨fun h => (congrArg Prod.snd (Sum.inr.inj (Sum.inr.inj h))).symm, fun h => by rw [h]⟩
theorem kRecv_ne_kCred {j e : Dev nD} : kRecv j ≠ kCred e := fun h =>
  (show (1 : Fin 3) ≠ 2 by decide) (congrArg Prod.fst (Sum.inr.inj (Sum.inr.inj h)))

theorem launch_recv (c j : Dev nD) (hj : j ≠ c) :
    tallyOn (recvCell c j) (launchCredit (Pipeline.owing O₀) 0 (recvCell c j)) = (tallyAt (recvCell c j) () N : CellTallies nD τ sig Unit) :=
  launch_at (c, kRecv j) j N fun e => by
    rw [owed_at, if_neg (c := _ = (e, kBar)) fun h => Sum.inr_ne_inl (congrArg Prod.snd h), if_neg (c := kRecv j = kCred e ∧ _) fun h => kRecv_ne_kCred h.1,
      Nat.add_zero]
    by_cases h : e = j
    · rw [if_pos h, h, if_pos ⟨rfl, hj.symm⟩]
    · rw [if_neg fun h' => h (kRecv_iff.mp h'.1), if_neg h]

theorem launch_cred (c j : Dev nD) (hj : j ≠ c) :
    tallyOn (credCell c j) (launchCredit (Pipeline.owing O₀) 0 (credCell c j)) = (tallyAt (credCell c j) () 1 : CellTallies nD τ sig Unit) :=
  launch_at (c, kCred j) j 1 fun e => by
    rw [owed_at, if_neg (c := _ = (e, kBar)) fun h => Sum.inr_ne_inl (congrArg Prod.snd h), if_neg (c := kCred j = kRecv e ∧ _) fun h => kRecv_ne_kCred h.1.symm,
      Nat.zero_add, Nat.add_zero]
    by_cases h : e = j
    · rw [if_pos h, h, if_pos ⟨rfl, hj.symm⟩]
    · rw [if_neg fun h' => h (kCred_iff.mp h'.1), if_neg h]

theorem cred_other (c j : Dev nD) (g : GSem nD τ sig) (n : ℕ)
    (h : j ≠ c → tallyOn g (launchCredit (Pipeline.owing O₀) 0 g) = (tallyAt g () n : CellTallies nD τ sig Unit)) :
    (cred (tallyOn g (launchCredit (Pipeline.owing O₀) 0 g)) : sProp 𝕄) ⊢ if j = c then iprop(emp) else cred (tallyAt g () n) := by
  by_cases hj : j = c
  · rw [if_pos hj]; iintro -; iempintro
  · rw [if_neg hj, h hj]

/-- The credit of everything the devices owe at launch, cell by cell. -/
theorem creds (c : Dev nD) : (Pipeline.launchCred O₀ c : sProp 𝕄) ⊢ credits c := by
  have h : (Pipeline.launchCred O₀ c : sProp 𝕄)
      ⊢ bigSep Finset.univ fun k : KA => cred (tallyOn (kcell (c, k)) (launchCredit (Pipeline.owing O₀) 0 (kcell (c, k)))) := by
    unfold Pipeline.launchCred
    refine (bigSep_subset (t := Finset.univ.map ⟨csem, csem_injective⟩) (Finset.subset_univ _)).trans ?_
    rw [bigSep_map]
    exact Entails.refl _
  refine BIBase.Entails.trans h ?_
  rw [bigSep_KA, bigSep_KO, launch_bar]
  unfold credits
  iintro ⟨HB, -, -, HR, HC⟩
  isplitl [HB]; · iexact HB
  isplitl [HR]
  · iapply (show (bigSep Finset.univ fun j : Dev nD => (cred (tallyOn (recvCell c j) (launchCredit (Pipeline.owing O₀) 0 (recvCell c j))) : sProp 𝕄)) ⊢ _ from
      bigSep_mono fun j _ => cred_other c j (recvCell c j) N (launch_recv c j))
    iexact HR
  · iapply (show (bigSep Finset.univ fun j : Dev nD => (cred (tallyOn (credCell c j) (launchCredit (Pipeline.owing O₀) 0 (credCell c j))) : sProp 𝕄)) ⊢ _ from
      bigSep_mono fun j _ => cred_other c j (credCell c j) 1 (launch_cred c j))
    iexact HC

/-! ## Around the body -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  unfold G'
  iintro ⟨Ha, Hlev, Hcr, -, %K, Hrec, Hlin⟩
  ihave Hc := (creds (F := F) c) $$ Hcr
  imodintro
  isplitl
  · unfold start
    isplitl [Hlev Hrec Hlin]
    · iexists K
      isplitr [Hlin]
      · unfold records ctx
        icases Hrec with ⟨HI, HR⟩
        isplitl [HI]; · iexact HI
        isplitl [HR] <;> iassumption
      iexact Hlin
    isplitl [Hc]; · iexact Hc
    unfold aPts; iexact Ha
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ rBuf sBuf wBuf
  iintro ⟨Hs, -, Hb⟩
  isplitl [Hs]; · iexact Hs
  iexact Hb

/-- What a device still has when the kernel has returned. -/
def left (c : Dev nD) : sProp 𝕄 := iprop(unscopedSems0 c ∗ aPts m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left rBuf sBuf wBuf
  rw [unscopedSems0_eq]
  iintro ⟨Hr, Hz, HzB, Ha⟩
  isplitl [HzB Ha]
  · isplitl [HzB] <;> iassumption
  isplitl [Hz] <;> iassumption

theorem lv_stage (w : Fin cfg0.W) (s : Fin (cfg0.win w).nbuf) (c : Dev nD) :
    ∀ ck, kcell ck ≠ ((c : Thread nD τ), .dma ((cfg0.win w).sem s)) := by
  have h : ∀ k : KA, csem k ≠ .dma ((cfg0.win w).sem s) := by
    fin_cases w <;> fin_cases s <;> decide +kernel
  exact fun ck e => h ck.2 (congrArg Prod.snd e)

theorem waits (c : Dev nD) : (levAts L lv : sProp 𝕄) ⊢ Pipeline.cellsWaits cfgs (dats m ρ) () 0 c :=
  Pipeline.cellsWaits_intro cfgs (dats m ρ) () 0 c fun w s t => by
    refine mayWait c _ 0 ?_ _ ?_
    · unfold lv kOf
      rw [dif_neg fun ⟨ck, h⟩ => lv_stage w s c ck h]; exact Nat.le_refl 0
    · rcases t with ⟨_ | _, ht⟩
      · exact above_O₀ c
      · exact above_zero 0

/-- When the machine stops, device `c`'s barrier counter is zero and its `w` is as it was. -/
theorem left_read (c : Dev nD) (s' : Phys nD τ sig (Elt F)) :
    iprop(left m c ∗ emp ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ (SI s' : sProp 𝕄)) := by
  unfold left aPts
  iintro ⟨⟨Hu, Ha⟩, -, HSI⟩
  icombine HSI Ha gives %h
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  iexact HSI

/-! ## The run -/

/-- What the run leaves in window `w`'s array of device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- On sixteen devices, for any float values and from any memory with zero counters: every weakly fair execution
    terminates, and every final state has each device's arrays at the computed contents, `w` as it was, and every
    semaphore counter at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := left m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := left_read m)
    (hQ := fun _ h hs => ⟨fun c => ⟨fun w => (h c).1 w, (h c).2.2.2⟩, sem_eq_zero hs fun c => (h c).2.2.1⟩)

/-- Device `c`'s columns of `x` stay. -/
theorem finalA_x (c : Dev nD) : finalA m ρ c (0 : Fin 2) = m ((c : Thread nD τ).loc main_arg0) :=
  (dats (F := F) m ρ 0 c).arrAt_in (0 : Fin 2) rfl _

end Cert.A2A

end
-- ==== Proof.Value.lean ====
/-
The all-to-all matrix product, `Value`: over the extended reals, what a device computes is its block of the reference's
result.
-/
module

public import proofs.«01_k».proof.Proof.Launch
public import proofs.«01_k».proof.Proof.Gen.ReferenceIdeal.Run
public import Idealize.ShloMosaic.Lib.Layout
public import Idealize.ShloMosaic.Lib.Pointwise
public import Idealize.ShloMosaic.Lib.Pipeline.ValueKit
public import Idealize.ShloMosaic.PureOps.Ideal.Laws

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × KA → ℕ)

set_option maxRecDepth 8000 in
/-- The result array ends with what the body left in its staging buffer. -/
theorem finalA_res (c : Dev nD) : finalA m ρ c (1 : Fin 2) = res m ρ c :=
  (dats m ρ 0 c).arrAt_eq_of_after_last 1 t₀ (by decide +kernel) _ fun j => rfl

/-- The staged columns of `x` are the device's argument. -/
theorem xstg_eq (c : Dev nD) : xstg m ρ c = m ((c : Thread nD τ).loc main_arg0) := by
  unfold xstg
  funext i
  rw [View.read_apply]
  refine congrArg (m ((c : Thread nD τ).loc main_arg0)) ?_
  blk_ext
  · show 0 * 1024 + _ = _
    omega
  · show 0 * 64 + _ = _
    omega

/-- Row `r` of block `d` of a thousand and twenty-four rows. -/
def row (d : Dev nD) (r : Fin 64) : Fin 1024 := ⟨64 * d.val + r.val, by have h : d.val < 16 := d.isLt; omega⟩

theorem xrow_apply (d : Dev nD) (f : (cc0_stg0_0 : Ref sig .tc).ty.Contents (Elt F)) (r k : Fin 64) :
    (xM.access (xrowR d)).read (Elt F) f (ix2 r k) = f (ix2 (row d r) k) := by
  rw [View.read_apply]
  refine congrArg f (funext fun a => Fin.ext ?_)
  fin_cases a
  · simp [row, ix2]
  · simp [row, ix2]

theorem wrow_apply (c d : Dev nD) (k : Fin 64) (q : Fin 1024) :
    wrow m c d (ix2 k q) = m ((c : Thread nD τ).loc main_arg1) (ix2 (row d k) q) := by
  unfold wrow wAt
  rw [View.read_apply]
  refine congrArg (m ((c : Thread nD τ).loc main_arg1)) (funext fun a => Fin.ext ?_)
  fin_cases a
  · simp [row, ix2]
  · simp [row, ix2]

/-! ## Over the extended reals -/

section Real
variable (m : (ℓ : Loc nD τ sig) → Buf (Elt Ideal) ℓ)

/-- Device `s`'s columns of `x`, and its copy of `w`, as numbers. -/
abbrev argX (s : Dev nD) : FVec Ideal S1024x64 .f32 := m ((s : Thread nD τ).loc main_arg0)
abbrev argW (s : Dev nD) : FVec Ideal S1024x1024 .f32 := m ((s : Thread nD τ).loc main_arg1)

/-- What device `s` sends device `d`, as a matrix. -/
theorem sent_apply (d s : Dev nD) (r k : Fin 64) :
    shapeCast S64x64 (sent m ρ d s) shapeCasts_S1x64x64_S64x64 (ix2 r k) = argX m s (ix2 (row d r) k) := by
  unfold sent
  unfold argX
  rw [← xstg_eq m ρ, ← xrow_apply (F := Ideal) d (xstg m ρ s) r k]
  pointwise [k0_pay1]

/-- One block's product. -/
def blockProd (A : Vec Ideal S1x64x64 .bf16) (W : Vec Ideal S64x1024 .f32) : FVec Ideal S64x1024 .f32 :=
  matmul (φ₁ := .f32) (φ₂ := .f32) dot_S64x64_S64x1024_S64x1024_1_0_0_1_n_n none
    (extf .f32 (shapeCast S64x64 A shapeCasts_S1x64x64_S64x64) bitsLt_bf16_f32 : FVec Ideal S64x64 .f32) W (constant S64x1024 .f32 0x00000000#32)

/-- The blocks' products added up, device by device; -/
def total (c : Dev nD) : FVec Ideal S64x1024 .f32 :=
  (List.finRange 16).foldl (fun acc j => addf acc (blockProd (sent m ρ c j) (wrow m c j))) (broadcast S64x1024 (Scalar.ofBits .f32 0x00000000#32))

/-- and what the kernel makes of the sum. -/
theorem res_eq (c : Dev nD) : res m ρ c = mulf (total ρ m c) (logistic (total ρ m c)) := rfl

theorem foldl_apply (l : List (Dev nD)) (z : FVec Ideal S64x1024 .f32) (T : Dev nD → FVec Ideal S64x1024 .f32) (i : S64x1024.Idx) :
    l.foldl (fun acc j => addf acc (T j)) z i = z i + (l.map fun j => T j i).sum := by
  induction l generalizing z with
  | nil => simp
  | cons j l ih => rw [List.foldl_cons, ih, List.map_cons, List.sum_cons, addf_apply, Ideal.addf_def, add_assoc]

theorem blockProd_apply (c j : Dev nD) (r : Fin 64) (q : Fin 1024) :
    blockProd (sent m ρ c j) (wrow m c j) (ix2 r q)
      = ∑ k : Fin 64, argX m j (ix2 (row c r) k) * argW m c (ix2 (row j k) q) := by
  have hw (k : Fin 64) : argW m c (ix2 (row j k) q) = wrow m c j (ix2 k q) := (wrow_apply m c j k q).symm
  simp only [← sent_apply ρ m, hw]
  unfold blockProd
  pointwise

theorem total_apply (c : Dev nD) (r : Fin 64) (q : Fin 1024) :
    total ρ m c (ix2 r q) = ∑ j : Dev nD, ∑ k : Fin 64,
      argX m j (ix2 (row c r) k) * argW m c (ix2 (row j k) q) := by
  unfold total
  rw [foldl_apply]
  simp only [blockProd_apply]
  rw [← Fin.sum_univ_def]
  pointwise

end Real

/-! ## The reference -/

/-- `y · logistic y` is `y / (1 + e⁻ʸ)`, the infinities included. -/
theorem silu_eq (y : EReal) : y * Ideal.logistic y = Ideal.div y (1 + Ideal.exp (-y)) := by
  have h : (1 : EReal) + Ideal.exp (-y) ≠ 0 := by
    have h0 : (0 : EReal) ≤ Ideal.exp (-y) := by
      induction -y with
      | bot => exact le_refl _
      | top => exact le_top
      | coe r => rw [Ideal.exp_coe]; exact_mod_cast (Real.exp_pos r).le
    have h1 : (0 : EReal) < 1 + Ideal.exp (-y) := lt_of_lt_of_le zero_lt_one (le_add_of_nonneg_right h0)
    exact h1.ne'
  unfold Ideal.logistic Ideal.div
  rw [if_neg h, if_neg h, one_mul]

/-- What the reference computes. -/
abbrev refOut (x w : FVec Ideal ⟨2, ![1024, 1024]⟩ .f32) : FVec Ideal ⟨2, ![1024, 1024]⟩ .f32 :=
  Host.divf (Host.dotGeneral Cert.ReferenceIdeal.dot_S1024x1024_S1024x1024_S1024x1024_1_0_0_1_n_n none x w)
    (addf (broadcastInDim Cert.ReferenceIdeal.S1024x1024 ![] Cert.ReferenceIdeal.Gen.bcast_S_S1024x1024 (constant Cert.ReferenceIdeal.S_ .f32 0x3F800000#32))
      (Host.exp (Host.negf (Host.dotGeneral Cert.ReferenceIdeal.dot_S1024x1024_S1024x1024_S1024x1024_1_0_0_1_n_n none x w))))

theorem refOut_apply (x w : FVec Ideal ⟨2, ![1024, 1024]⟩ .f32) (p q : Fin 1024) :
    refOut x w (ix2 p q) = Ideal.div (∑ k : Fin 1024, x (ix2 p k) * w (ix2 k q)) (1 + Ideal.exp (-(∑ k : Fin 1024, x (ix2 p k) * w (ix2 k q)))) := by
  pointwise [refOut]

/-- With the columns of `x` dealt out and `w` on every device, each device ends with its rows of the reference's result. -/
theorem res_block (m : (ℓ : Loc nD τ sig) → Buf (Elt Ideal) ℓ) (ρ : Dev nD → PrngReg)
    (X W : FVec Ideal ⟨2, ![1024, 1024]⟩ .f32)
    (hx : ∀ s : Dev nD, argX m s = Layout.block ⟨2, ![1024, 64]⟩ ⟨2, ![1024, 1024]⟩ 1 16 s X)
    (hw : ∀ s : Dev nD, argW m s = W) (c : Dev nD) :
    res m ρ c = Layout.block ⟨2, ![64, 1024]⟩ ⟨2, ![1024, 1024]⟩ 0 16 c (refOut X W) := by
  funext i
  obtain ⟨r, q, rfl⟩ : ∃ (r : Fin 64) (q : Fin 1024), i = ix2 r q := ⟨i 0, i 1, eq_ix2 i⟩
  have hX (j : Dev nD) (k : Fin 64) : argX m j (ix2 (row c r) k) = X (ix2 (row c r) (row j k)) := by
    rw [hx, Layout.block_apply]
    refine congrArg X ?_
    funext a
    fin_cases a
    · exact Fin.ext (by simp [Layout.Tiles.idx, ix2, row])
    · exact Fin.ext (by simp [Layout.Tiles.idx, ix2, row, Nat.mul_comm])
  have hT : total ρ m c (ix2 r q) = ∑ k : Fin 1024, X (ix2 (row c r) k) * W (ix2 k q) := by
    rw [total_apply, Fin.sum_univ_tiles (N := 1024) 16 64 (by norm_num)]
    refine Finset.sum_congr rfl fun j _ => Finset.sum_congr rfl fun k _ => ?_
    have hk : row j k = ⟨j.val * 64 + k.val, by have h : j.val < 16 := j.isLt; omega⟩ := Fin.ext (by simp [row, Nat.mul_comm])
    rw [hX, hw, hk]
  have hB : (Layout.block ⟨2, ![64, 1024]⟩ ⟨2, ![1024, 1024]⟩ 0 16 c (refOut X W) : FVec Ideal ⟨2, ![64, 1024]⟩ .f32) (ix2 r q) = refOut X W (ix2 (row c r) q) := by
    rw [Layout.block_apply]
    refine congrArg (refOut X W) ?_
    funext a
    fin_cases a
    · exact Fin.ext (by simp [Layout.Tiles.idx, ix2, row, Nat.mul_comm])
    · exact Fin.ext (by simp [Layout.Tiles.idx, ix2])
  rw [hB, refOut_apply, res_eq, ← silu_eq, ← hT]
  rfl

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

section KernelSide

open Cert.KernelIdeal Cert.KernelIdeal.Gen Cert.A2A

variable {F : FTy → Type} [FloatOps F] (m : (ℓ : Loc nD τ sig) → Buf (Elt F) ℓ) (ρ : Dev nD → PrngReg)

/-- The kernel's run, by the names of its arrays: the result is `res`, the arguments stay, every counter ends at zero. -/
theorem run_kernel : θ_run defs (onTc (τ := τ) (main (F := F))) ⟨m, fun _ => 0, ρ⟩ (fun r => (∀ c : Dev nD,
      r.2.mem ((c.tc : Thread nD τ).loc main_v1) = res m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).1 (1 : Fin 2)).trans (finalA_res m ρ c),
    ((h.1 c).1 (0 : Fin 2)).trans (finalA_x m ρ c), (h.1 c).2⟩, h.2⟩) (run_arrays m ρ)

end KernelSide

section SameText

variable {F : FTy → Type} [FloatOps F]

/-- The two programs have one text: the kernel's table of bodies is the same for both, -/
theorem bodies_same : Cert.Kernel.defs₀ (F := F) = Cert.KernelIdeal.defs₀ (F := F) := by
  funext k ℓ
  cases k
  · obtain ⟨p, hp⟩ := ℓ
    obtain rfl : p = 0 := Nat.lt_one_iff.mp hp
    rfl
  · rfl
  · rfl

/-- and so is the whole table. -/
theorem defs_same : Cert.Kernel.defs (F := F) = Cert.KernelIdeal.defs (F := F) :=
  congrArg (Pipeline.defs Cert.KernelIdeal.pcfgs) bodies_same

end SameText

/-- The kernel as printed runs, keeps its arguments, and leaves every counter at zero. -/
theorem frame_kernel : Cert.quiescent_Kernel := by
  intro m ρ _
  rw [defs_same]
  exact (θ_run Cert.KernelIdeal.defs _ _).mono (fun _ h => ⟨fun c => (h.1 c).2, h.2⟩) (run_kernel (F := Bits) m ρ)

/-- So does the kernel over the extended reals, -/
theorem frame_kernelIdeal : Cert.quiescent_KernelIdeal := fun m ρ _ =>
  (θ_run Cert.KernelIdeal.defs _ _).mono (fun _ h => ⟨fun c => (h.1 c).2, h.2⟩) (run_kernel (F := Ideal) m ρ)

/-- and so does the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Device `c`'s result is block `c` of the rows of the reference's result. -/
theorem algebraic : Cert.algebraic_KernelIdeal_ReferenceIdeal := fun m ρ m' ρ' _ hm =>
  ⟨Cert.A2A.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans
        (Cert.A2A.res_block m ρ _ _ (fun s => (hm s).1) (fun s => (hm s).2) c), (h.1 c).2⟩) (run_kernel (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
